-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_whole_lengths [hPre_whole_lengths : Cert.Pre_whole_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_whole_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_whole_lengths [hPre_whole_lengths : Cert.Pre_whole_lengths.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_whole_lengths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_whole_lengths [hKernelIdeal : Cert.KernelIdeal.Facts] [hPre_whole_lengths : Cert.Pre_whole_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_whole_lengths m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_whole_lengths [hReferenceIdeal : Cert.ReferenceIdeal.Facts] [hPre_whole_lengths : Cert.Pre_whole_lengths.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_whole_lengths m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_whole_lengths [hKernelIdeal : Cert.KernelIdeal.Facts] [hReferenceIdeal : Cert.ReferenceIdeal.Facts] [hPre_whole_lengths : Cert.Pre_whole_lengths.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_whole_lengths m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_whole_lengths : Cert.Pre_whole_lengths.Facts),
    quiescent_Kernel (hKernel := hKernel)
    ∧ quiescent_KernelIdeal (hKernelIdeal := hKernelIdeal)
    ∧ quiescent_KernelIdeal_pre_whole_lengths (hKernelIdeal := hKernelIdeal) (hPre_whole_lengths := hPre_whole_lengths)
    ∧ quiescent_ReferenceIdeal (hReferenceIdeal := hReferenceIdeal)
    ∧ quiescent_ReferenceIdeal_pre_whole_lengths (hReferenceIdeal := hReferenceIdeal) (hPre_whole_lengths := hPre_whole_lengths)
    ∧ preserves_Kernel_KernelIdeal
    ∧ algebraic_KernelIdeal_ReferenceIdeal_pre_whole_lengths (hKernelIdeal := hKernelIdeal) (hReferenceIdeal := hReferenceIdeal) (hPre_whole_lengths := hPre_whole_lengths)
-- ==== Pre_whole_lengths.lean ====
abbrev S8x16x64x256 : Shape := ⟨4, ![8, 16, 64, 256]⟩
abbrev S8x16x64 : Shape := ⟨3, ![8, 16, 64]⟩
abbrev S256x768 : Shape := ⟨2, ![256, 768]⟩
abbrev S768 : Shape := ⟨1, ![768]⟩
abbrev S128x64 : Shape := ⟨2, ![128, 64]⟩
abbrev S_ : Shape := ⟨0, ![]⟩
abbrev S128 : Shape := ⟨1, ![128]⟩

class Facts : Prop where
  shapeCasts_S8x16x64_S128x64 : S8x16x64.ShapeCasts S128x64
  reducesTo_S128x64_S128_d1 : S128x64.ReducesTo [1] S128
  h_S_ : 0 < S_.numel

variable [Facts]

def fn {F : FTy → Type} [FloatOps F] (main_arg0 : FVec F S8x16x64x256 .f32) (main_arg1 : FVec F S8x16x64 .f32) (main_arg2 : FVec F S256x768 .f32) (main_arg3 : FVec F S256x768 .f32) (main_arg4 : FVec F S768 .f32) (main_arg5 : FVec F S768 .f32) : IVec S128 1 :=
  let main_v0 : FVec F S128x64 .f32 := shapeCast S128x64 main_arg1 shapeCasts_S8x16x64_S128x64
  let main_cst : FVec F S_ .f32 := constant S_ .f32 0x00000000#32
  let main_v1 : FVec F S128 .f32 := (fun x v => Host.reduceAdd x v reducesTo_S128x64_S128_d1 h_S_) main_v0 main_cst
  let main_v2 : IVec S128 32 := fptosi 32 main_v1
  let main_v3 : FVec F S128 .f32 := sitofp .f32 main_v2
  let main_v4 : IVec S128 1 := cmpf .oeq main_v3 main_v1
  main_v4
-- ==== Kernel.lean ====
abbrev S8x16x64x256 : Shape := ⟨4, ![8, 16, 64, 256]⟩
abbrev S8x16x64 : Shape := ⟨3, ![8, 16, 64]⟩
abbrev S256x768 : Shape := ⟨2, ![256, 768]⟩
abbrev S768 : Shape := ⟨1, ![768]⟩
abbrev S128x64x256 : Shape := ⟨3, ![128, 64, 256]⟩
abbrev S128x64 : Shape := ⟨2, ![128, 64]⟩
abbrev S_ : Shape := ⟨0, ![]⟩
abbrev S128 : Shape := ⟨1, ![128]⟩
abbrev S128x1 : Shape := ⟨2, ![128, 1]⟩
abbrev S1x768 : Shape := ⟨2, ![1, 768]⟩
abbrev S128x256 : Shape := ⟨2, ![128, 256]⟩
abbrev S128x8x256 : Shape := ⟨3, ![128, 8, 256]⟩
abbrev S128x1x256 : Shape := ⟨3, ![128, 1, 256]⟩
abbrev S128x768 : Shape := ⟨2, ![128, 768]⟩
abbrev S64x256 : Shape := ⟨2, ![64, 256]⟩
abbrev S64x1 : Shape := ⟨2, ![64, 1]⟩
abbrev S64x768 : Shape := ⟨2, ![64, 768]⟩

abbrev nBuf : Space → Nat
  | .hbm => 14
  | .vmem => 9
  | .smem => 0
  | _ => 0

abbrev bufTy : (tb : Table) → Fin (tcTables nBuf tb) → BufTy
  | .hbm, ⟨0, _⟩ => ⟨S8x16x64x256, .f32⟩
  | .hbm, ⟨1, _⟩ => ⟨S8x16x64, .f32⟩
  | .hbm, ⟨2, _⟩ => ⟨S256x768, .f32⟩
  | .hbm, ⟨3, _⟩ => ⟨S256x768, .f32⟩
  | .hbm, ⟨4, _⟩ => ⟨S768, .f32⟩
  | .hbm, ⟨5, _⟩ => ⟨S768, .f32⟩
  | .hbm, ⟨6, _⟩ => ⟨S128x64x256, .f32⟩
  | .hbm, ⟨7, _⟩ => ⟨S128x64, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S1x768, .f32⟩
  | .hbm, ⟨12, _⟩ => ⟨S1x768, .f32⟩
  | .hbm, ⟨13, _⟩ => ⟨S128x256, .f32⟩
  | .local _ .vmem, ⟨0, _⟩ => ⟨S128x8x256, .f32⟩
  | .local _ .vmem, ⟨1, _⟩ => ⟨S128x8x256, .f32⟩
  | .local _ .vmem, ⟨2, _⟩ => ⟨S128x1, .f32⟩
  | .local _ .vmem, ⟨3, _⟩ => ⟨S256x768, .f32⟩
  | .local _ .vmem, ⟨4, _⟩ => ⟨S256x768, .f32⟩
  | .local _ .vmem, ⟨5, _⟩ => ⟨S1x768, .f32⟩
  | .local _ .vmem, ⟨6, _⟩ => ⟨S1x768, .f32⟩
  | .local _ .vmem, ⟨7, _⟩ => ⟨S128x256, .f32⟩
  | .local _ .vmem, ⟨8, _⟩ => ⟨S128x256, .f32⟩
  | _, _ => ⟨S8x16x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_162 : BitVec 32 := 7#32
  let v686 : BitVec 1 := Scalar.cmpi .eq arg0 c7_i32_162
  let v687 : BitVec 32 := Scalar.extui v686
  let c0_i32_163 : BitVec 32 := 0#32
  let v688 : BitVec 1 := Scalar.cmpi .ne v687 c0_i32_163
  v688

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x16x64x256 : Shape := ⟨4, ![8, 16, 64, 256]⟩
abbrev S8x16x64 : Shape := ⟨3, ![8, 16, 64]⟩
abbrev S256x768 : Shape := ⟨2, ![256, 768]⟩
abbrev S768 : Shape := ⟨1, ![768]⟩
abbrev S128x64x256 : Shape := ⟨3, ![128, 64, 256]⟩
abbrev S128x64 : Shape := ⟨2, ![128, 64]⟩
abbrev S_ : Shape := ⟨0, ![]⟩
abbrev S128 : Shape := ⟨1, ![128]⟩
abbrev S128x1 : Shape := ⟨2, ![128, 1]⟩
abbrev S128x256 : Shape := ⟨2, ![128, 256]⟩
abbrev S64x128x256 : Shape := ⟨3, ![64, 128, 256]⟩
abbrev S64 : Shape := ⟨1, ![64]⟩
abbrev S1x128x256 : Shape := ⟨3, ![1, 128, 256]⟩
abbrev S1 : Shape := ⟨1, ![1]⟩
abbrev S128x768 : Shape := ⟨2, ![128, 768]⟩
abbrev S1x768 : Shape := ⟨2, ![1, 768]⟩

abbrev nBuf : Space → Nat
  | .hbm => 126
  | .vmem => 0
  | .smem => 0
  | _ => 0

abbrev bufTy : (tb : Table) → Fin (tcTables nBuf tb) → BufTy
  | .hbm, ⟨0, _⟩ => ⟨S8x16x64x256, .f32⟩
  | .hbm, ⟨1, _⟩ => ⟨S8x16x64, .f32⟩
  | .hbm, ⟨2, _⟩ => ⟨S256x768, .f32⟩
  | .hbm, ⟨3, _⟩ => ⟨S256x768, .f32⟩
  | .hbm, ⟨4, _⟩ => ⟨S768, .f32⟩
  | .hbm, ⟨5, _⟩ => ⟨S768, .f32⟩
  | .hbm, ⟨6, _⟩ => ⟨S128x64x256, .f32⟩
  | .hbm, ⟨7, _⟩ => ⟨S128x64, .f32⟩
  | .hbm, ⟨8, _⟩ => ⟨S_, .f32⟩
  | .hbm, ⟨9, _⟩ => ⟨S128, .f32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S128x64x256, .f32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S128x1, .i32⟩
  | .hbm, ⟨35, _⟩ => ⟨S128, .i32⟩
  | .hbm, ⟨36, _⟩ => ⟨S_, .f32⟩
  | .hbm, ⟨37, _⟩ => ⟨S128x256, .f32⟩
  | .hbm, ⟨38, _⟩ => ⟨S64x128x256, .f32⟩
  | .hbm, ⟨39, _⟩ => ⟨S64, .i32⟩
  | .hbm, ⟨40, _⟩ => ⟨S_, .i32⟩
  | .hbm, ⟨41, _⟩ => ⟨S64x128x256, .f32⟩
  | .hbm, ⟨42, _⟩ => ⟨S64, .i32⟩
  | .hbm, ⟨43, _⟩ => ⟨S256x768, .f32⟩
  | .hbm, ⟨44, _⟩ => ⟨S768, .f32⟩
  | .hbm, ⟨45, _⟩ => ⟨S256x768, .f32⟩
  | .hbm, ⟨46, _⟩ => ⟨S768, .f32⟩
  | .hbm, ⟨47, _⟩ => ⟨S128, .i32⟩
  | .hbm, ⟨48, _⟩ => ⟨S_, .i32⟩
  | .hbm, ⟨49, _⟩ => ⟨S128x256, .f32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S1x128x256, .f32⟩
  | .hbm, ⟨55, _⟩ => ⟨S128x256, .f32⟩
  | .hbm, ⟨56, _⟩ => ⟨S1, .i32⟩
  | .hbm, ⟨57, _⟩ => ⟨S_, .i32⟩
  | .hbm, ⟨58, _⟩ => ⟨S128x768, .f32⟩
  | .hbm, ⟨59, _⟩ => ⟨S1x768, .f32⟩
  | .hbm, ⟨60, _⟩ => ⟨S128x768, .f32⟩
  | .hbm, ⟨61, _⟩ => ⟨S128x768, .f32⟩
  | .hbm, ⟨62, _⟩ => ⟨S128x768, .f32⟩
  | .hbm, ⟨63, _⟩ => ⟨S1x768, .f32⟩
  | .hbm, ⟨64, _⟩ => ⟨S128x768, .f32⟩
  | .hbm, ⟨65, _⟩ => ⟨S128x768, .f32⟩
  | .hbm, ⟨66, _⟩ => ⟨S128x256, .f32⟩
  | .hbm, ⟨67, _⟩ => ⟨S128x256, .f32⟩
  | .hbm, ⟨68, _⟩ => ⟨S128x256, .f32⟩
  | .hbm, ⟨69, _⟩ => ⟨S128x256, .f32⟩
  | .hbm, ⟨70, _⟩ => ⟨S128x256, .f32⟩
  | .hbm, ⟨71, _⟩ => ⟨S128x256, .f32⟩
  | .hbm, ⟨72, _⟩ => ⟨S128x256, .f32⟩
  | .hbm, ⟨73, _⟩ => ⟨S128x256, .f32⟩
  | .hbm, ⟨74, _⟩ => ⟨S128x256, .f32⟩
  | .hbm, ⟨75, _⟩ => ⟨S_, .f32⟩
  | .hbm, ⟨76, _⟩ => ⟨S128x256, .f32⟩
  | .hbm, ⟨77, _⟩ => ⟨S128x256, .f32⟩
  | .hbm, ⟨78, _⟩ => ⟨S_, .f32⟩
  | .hbm, ⟨79, _⟩ => ⟨S128x256, .f32⟩
  | .hbm, ⟨80, _⟩ => ⟨S128x256, .f32⟩
  | .hbm, ⟨81, _⟩ => ⟨S128x256, .f32⟩
  | .hbm, ⟨82, _⟩ => ⟨S128x256, .f32⟩
  | .hbm, ⟨83, _⟩ => ⟨S128x256, .f32⟩
  | .hbm, ⟨84, _⟩ => ⟨S_, .f32⟩
  | .hbm, ⟨85, _⟩ => ⟨S128x256, .f32⟩
  | .hbm, ⟨86, _⟩ => ⟨S128x256, .f32⟩
  | .hbm, ⟨87, _⟩ => ⟨S_, .f32⟩
  | .hbm, ⟨88, _⟩ => ⟨S128x256, .f32⟩
  | .hbm, ⟨89, _⟩ => ⟨S128x256, .f32⟩
  | .hbm, ⟨90, _⟩ => ⟨S128x256, .f32⟩
  | .hbm, ⟨91, _⟩ => ⟨S128x256, .f32⟩
  | .hbm, ⟨92, _⟩ => ⟨S128x256, .f32⟩
  | .hbm, ⟨93, _⟩ => ⟨S_, .f32⟩
  | .hbm, ⟨94, _⟩ => ⟨S128x256, .f32⟩
  | .hbm, ⟨95, _⟩ => ⟨S128x256, .f32⟩
  | .hbm, ⟨96, _⟩ => ⟨S128x256, .f32⟩
  | .hbm, ⟨97, _⟩ => ⟨S128x256, .f32⟩
  | .hbm, ⟨98, _⟩ => ⟨S128x256, .f32⟩
  | .hbm, ⟨99, _⟩ => ⟨S128, .i32⟩
  | .hbm, ⟨100, _⟩ => ⟨S128, .i1⟩
  | .hbm, ⟨101, _⟩ => ⟨S128x1, .i1⟩
  | .hbm, ⟨102, _⟩ => ⟨S128x256, .i1⟩
  | .hbm, ⟨103, _⟩ => ⟨S128x256, .f32⟩
  | .hbm, ⟨104, _⟩ => ⟨S_, .i32⟩
  | .hbm, ⟨105, _⟩ => ⟨S_, .i32⟩
  | .hbm, ⟨106, _⟩ => ⟨S128x64, .f32⟩
  | .hbm, ⟨107, _⟩ => ⟨S_, .f32⟩
  | .hbm, ⟨108, _⟩ => ⟨S128, .f32⟩
  | .hbm, ⟨109, _⟩ => ⟨S128, .i32⟩
  | .hbm, ⟨110, _⟩ => ⟨S128, .i32⟩
  | .hbm, ⟨111, _⟩ => ⟨S128, .i32⟩
  | .hbm, ⟨112, _⟩ => ⟨S128, .i32⟩
  | .hbm, ⟨113, _⟩ => ⟨S128, .i32⟩
  | .hbm, ⟨114, _⟩ => ⟨S128, .i32⟩
  | .hbm, ⟨115, _⟩ => ⟨S128, .i32⟩
  | .hbm, ⟨116, _⟩ => ⟨S128, .i32⟩
  | .hbm, ⟨117, _⟩ => ⟨S_, .i32⟩
  | .hbm, ⟨118, _⟩ => ⟨S128, .i32⟩
  | .hbm, ⟨119, _⟩ => ⟨S128, .i1⟩
  | .hbm, ⟨120, _⟩ => ⟨S_, .i32⟩
  | .hbm, ⟨121, _⟩ => ⟨S128, .i32⟩
  | .hbm, ⟨122, _⟩ => ⟨S128, .i32⟩
  | .hbm, ⟨123, _⟩ => ⟨S128, .i32⟩
  | .hbm, ⟨124, _⟩ => ⟨S128x1, .i32⟩
  | .hbm, ⟨125, _⟩ => ⟨S128x256, .f32⟩
  | _, _ => ⟨S8x16x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1_0 : Ref sig .tc := ⟨.hbm, 13, rfl⟩
abbrev main_v5 : Ref sig .tc := ⟨.hbm, 14, rfl⟩
abbrev main_call1_v0 : Ref sig .tc := ⟨.hbm, 15, rfl⟩
abbrev main_call1_v1_0 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24_0 : Ref sig .tc := ⟨.hbm, 41, rfl⟩
abbrev main_v24_1 : Ref sig .tc := ⟨.hbm, 42, rfl⟩
abbrev main_v24_2 : Ref sig .tc := ⟨.hbm, 43, rfl⟩
abbrev main_v24_3 : Ref sig .tc := ⟨.hbm, 44, rfl⟩
abbrev main_v24_4 : Ref sig .tc := ⟨.hbm, 45, rfl⟩
abbrev main_v24_5 : Ref sig .tc := ⟨.hbm, 46, rfl⟩
abbrev main_v24_6 : Ref sig .tc := ⟨.hbm, 47, rfl⟩
abbrev main_v24_7 : Ref sig .tc := ⟨.hbm, 48, rfl⟩
abbrev main_v24_8 : Ref sig .tc := ⟨.hbm, 49, rfl⟩
abbrev main_while0c_c_16 : Ref sig .tc := ⟨.hbm, 50, rfl⟩
abbrev main_while0c_v38 : Ref sig .tc := ⟨.hbm, 51, rfl⟩
abbrev main_while0b_call2_c : Ref sig .tc := ⟨.hbm, 52, rfl⟩
abbrev main_while0b_call2_c_0 : Ref sig .tc := ⟨.hbm, 53, rfl⟩
abbrev main_while0b_call2_v0 : Ref sig .tc := ⟨.hbm, 54, rfl⟩
abbrev main_while0b_v38 : Ref sig .tc := ⟨.hbm, 55, rfl⟩
abbrev main_while0b_call3_v0 : Ref sig .tc := ⟨.hbm, 56, rfl⟩
abbrev main_while0b_v39 : Ref sig .tc := ⟨.hbm, 57, rfl⟩
abbrev main_while0b_v40 : Ref sig .tc := ⟨.hbm, 58, rfl⟩
abbrev main_while0b_v41 : Ref sig .tc := ⟨.hbm, 59, rfl⟩
abbrev main_while0b_v42 : Ref sig .tc := ⟨.hbm, 60, rfl⟩
abbrev main_while0b_v43 : Ref sig .tc := ⟨.hbm, 61, rfl⟩
abbrev main_while0b_v44 : Ref sig .tc := ⟨.hbm, 62, rfl⟩
abbrev main_while0b_v45 : Ref sig .tc := ⟨.hbm, 63, rfl⟩
abbrev main_while0b_v46 : Ref sig .tc := ⟨.hbm, 64, rfl⟩
abbrev main_while0b_v47 : Ref sig .tc := ⟨.hbm, 65, rfl⟩
abbrev main_while0b_v48 : Ref sig .tc := ⟨.hbm, 66, rfl⟩
abbrev main_while0b_v49 : Ref sig .tc := ⟨.hbm, 67, rfl⟩
abbrev main_while0b_v50 : Ref sig .tc := ⟨.hbm, 68, rfl⟩
abbrev main_while0b_v51 : Ref sig .tc := ⟨.hbm, 69, rfl⟩
abbrev main_while0b_v52 : Ref sig .tc := ⟨.hbm, 70, rfl⟩
abbrev main_while0b_v53 : Ref sig .tc := ⟨.hbm, 71, rfl⟩
abbrev main_while0b_v54 : Ref sig .tc := ⟨.hbm, 72, rfl⟩
abbrev main_while0b_v55 : Ref sig .tc := ⟨.hbm, 73, rfl⟩
abbrev main_while0b_v56 : Ref sig .tc := ⟨.hbm, 74, rfl⟩
abbrev main_while0b_cst_16 : Ref sig .tc := ⟨.hbm, 75, rfl⟩
abbrev main_while0b_v57 : Ref sig .tc := ⟨.hbm, 76, rfl⟩
abbrev main_while0b_v58 : Ref sig .tc := ⟨.hbm, 77, rfl⟩
abbrev main_while0b_cst_17 : Ref sig .tc := ⟨.hbm, 78, rfl⟩
abbrev main_while0b_v59 : Ref sig .tc := ⟨.hbm, 79, rfl⟩
abbrev main_while0b_v60 : Ref sig .tc := ⟨.hbm, 80, rfl⟩
abbrev main_while0b_v61 : Ref sig .tc := ⟨.hbm, 81, rfl⟩
abbrev main_while0b_v62 : Ref sig .tc := ⟨.hbm, 82, rfl⟩
abbrev main_while0b_v63 : Ref sig .tc := ⟨.hbm, 83, rfl⟩
abbrev main_while0b_cst_18 : Ref sig .tc := ⟨.hbm, 84, rfl⟩
abbrev main_while0b_v64 : Ref sig .tc := ⟨.hbm, 85, rfl⟩
abbrev main_while0b_v65 : Ref sig .tc := ⟨.hbm, 86, rfl⟩
abbrev main_while0b_cst_19 : Ref sig .tc := ⟨.hbm, 87, rfl⟩
abbrev main_while0b_v66 : Ref sig .tc := ⟨.hbm, 88, rfl⟩
abbrev main_while0b_v67 : Ref sig .tc := ⟨.hbm, 89, rfl⟩
abbrev main_while0b_v68 : Ref sig .tc := ⟨.hbm, 90, rfl⟩
abbrev main_while0b_v69 : Ref sig .tc := ⟨.hbm, 91, rfl⟩
abbrev main_while0b_v70 : Ref sig .tc := ⟨.hbm, 92, rfl⟩
abbrev main_while0b_cst_20 : Ref sig .tc := ⟨.hbm, 93, rfl⟩
abbrev main_while0b_v71 : Ref sig .tc := ⟨.hbm, 94, rfl⟩
abbrev main_while0b_v72 : Ref sig .tc := ⟨.hbm, 95, rfl⟩
abbrev main_while0b_v73 : Ref sig .tc := ⟨.hbm, 96, rfl⟩
abbrev main_while0b_v74 : Ref sig .tc := ⟨.hbm, 97, rfl⟩
abbrev main_while0b_v75 : Ref sig .tc := ⟨.hbm, 98, rfl⟩
abbrev main_while0b_v76 : Ref sig .tc := ⟨.hbm, 99, rfl⟩
abbrev main_while0b_v77 : Ref sig .tc := ⟨.hbm, 100, rfl⟩
abbrev main_while0b_v78 : Ref sig .tc := ⟨.hbm, 101, rfl⟩
abbrev main_while0b_call4_v0 : Ref sig .tc := ⟨.hbm, 102, rfl⟩
abbrev main_while0b_v79 : Ref sig .tc := ⟨.hbm, 103, rfl⟩
abbrev main_while0b_c_21 : Ref sig .tc := ⟨.hbm, 104, rfl⟩
abbrev main_while0b_v80 : Ref sig .tc := ⟨.hbm, 105, rfl⟩
abbrev main_v25 : Ref sig .tc := ⟨.hbm, 106, rfl⟩
abbrev main_cst_5 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_call5_v0 : Ref sig .tc := ⟨.hbm, 111, rfl⟩
abbrev main_call5_v1_0 : Ref sig .tc := ⟨.hbm, 112, rfl⟩
abbrev main_v29 : Ref sig .tc := ⟨.hbm, 113, rfl⟩
abbrev main_call6_v0 : Ref sig .tc := ⟨.hbm, 114, rfl⟩
abbrev main_call6_v1_0 : Ref sig .tc := ⟨.hbm, 115, rfl⟩
abbrev main_v30 : Ref sig .tc := ⟨.hbm, 116, rfl⟩
abbrev main_c_6 : Ref sig .tc := ⟨.hbm, 117, rfl⟩
abbrev main_v31 : Ref sig .tc := ⟨.hbm, 118, rfl⟩
abbrev main_v32 : Ref sig .tc := ⟨.hbm, 119, rfl⟩
abbrev main_c_7 : Ref sig .tc := ⟨.hbm, 120, rfl⟩
abbrev main_v33 : Ref sig .tc := ⟨.hbm, 121, rfl⟩
abbrev main_v34 : Ref sig .tc := ⟨.hbm, 122, rfl⟩
abbrev main_v35 : Ref sig .tc := ⟨.hbm, 123, rfl⟩
abbrev main_v36 : Ref sig .tc := ⟨.hbm, 124, rfl⟩
abbrev main_v37 : Ref sig .tc := ⟨.hbm, 125, rfl⟩

abbrev nD : Nat := 1
abbrev τ : Topo := Topo.v7x

variable {F : FTy → Type} [FloatOps F]

abbrev main_while0_count : Scf.Loop 32 := ⟨0#32, 64#32, 1#32⟩
-- ==== Proof.Inputs.lean ====
/- The inputs of a sentence, read off the arrays both programs are launched with: its words, its length, the biases. -/
module

public import Idealize.ShloMosaic.Lib.Pointwise

@[expose] public section

noncomputable section

namespace Cert.Gru

open Idealize.ShloMosaic

/-- Word `t` of sentence `r`, of the words of all sentences; nothing is read beyond the 64 words. -/
def words (x : (⟨3, ![128, 64, 256]⟩ : Shape).Idx → EReal) (r : Fin 128) (t : ℕ) (l : Fin 256) : EReal :=
  if h : t < 64 then x (ix3 r ⟨t, h⟩ l) else 0

/-- The words of a sentence where there are any. -/
theorem words_of_lt (x : (⟨3, ![128, 64, 256]⟩ : Shape).Idx → EReal) (r : Fin 128) (t : Fin 64) (l : Fin 256) :
    words x r t.val l = x (ix3 r t l) := dif_pos t.isLt

/-- A sentence's length: the sum of its mask as an integer word. -/
def len (s : FVec Ideal (⟨1, ![128]⟩ : Shape) .f32) (r : Fin 128) : ℤ := (fptosi 32 s (ix1 r) : BitVec 32).toInt

/-- A bias by its one coordinate. -/
def bias (b : (⟨1, ![768]⟩ : Shape).Idx → EReal) (j : Fin 768) : EReal := b (ix1 j)

/-- A sum of a mask that is the same number after the conversion to an integer and back is its length. -/
theorem sum_eq_len (s : FVec Ideal (⟨1, ![128]⟩ : Shape) .f32) (r : Fin 128)
    (h : cmpf .oeq (sitofp .f32 (fptosi 32 s)) s (ix1 r) = 1#1) : s (ix1 r) = ((len s r : ℝ) : EReal) := by
  have h' : BitVec.ofBool (decide (((((fptosi 32 s (ix1 r) : BitVec 32).toInt : ℝ)) : EReal) = s (ix1 r))) = 1#1 := h
  by_contra hne
  have e : decide (((((fptosi 32 s (ix1 r) : BitVec 32).toInt : ℝ)) : EReal) = s (ix1 r)) = false :=
    decide_eq_false fun e => hne e.symm
  rw [e] at h'
  exact absurd h' (by decide)

end Cert.Gru

end
-- ==== Proof.Cell.lean ====
/- One coordinate of a gated recurrent step on extended reals: the logistic gate written with `tanh`, and the two ways of
   mixing the candidate with the old state. -/
module

public import Idealize.ShloMosaic.Lib.IdealHost

@[expose] public section

noncomputable section

namespace Cert.Gru

open Idealize.ShloMosaic

/-- The f32 word `0x3F000000` is one half. -/
theorem half_word : Ideal.ofBits .f32 0x3F000000#32 = (((1 : ℝ) / 2 : ℝ) : EReal) := by
  simp [Ideal.ofBits, Ideal.ieee, -EReal.coe_mul]; norm_num

/-- One half plus one half of `tanh (x / 2)` is the logistic function, at reals and at both infinities. -/
theorem half_tanh (x : EReal) :
    (((1 : ℝ) / 2 : ℝ) : EReal) + (((1 : ℝ) / 2 : ℝ) : EReal) * Ideal.tanh ((((1 : ℝ) / 2 : ℝ) : EReal) * x)
      = Ideal.logistic x := by
  have hpos : (0 : ℝ) < 1 / 2 := by norm_num
  induction x with
  | bot =>
    rw [EReal.coe_mul_bot_of_pos hpos, Ideal.tanh_bot, Ideal.logistic_bot, ← EReal.coe_one, ← EReal.coe_neg,
      ← EReal.coe_mul, ← EReal.coe_add, ← EReal.coe_zero]
    norm_num
  | top =>
    rw [EReal.coe_mul_top_of_pos hpos, Ideal.tanh_top, Ideal.logistic_top, ← EReal.coe_one,
      ← EReal.coe_mul, ← EReal.coe_add]
    norm_num
  | coe x =>
    rw [← EReal.coe_mul, Ideal.tanh_coe, Ideal.logistic_coe, ← EReal.coe_mul, ← EReal.coe_add]
    congr 1
    have e1 : Real.exp (-x) = Real.exp (-(1 / 2 * x)) * Real.exp (-(1 / 2 * x)) := by
      rw [← Real.exp_add]; ring_nf
    have e2 : Real.exp (1 / 2 * x) * Real.exp (-(1 / 2 * x)) = 1 := by rw [← Real.exp_add]; simp
    rw [Real.tanh_eq_sinh_div_cosh, Real.sinh_eq, Real.cosh_eq, e1]
    have p := Real.exp_pos (1 / 2 * x)
    have q := Real.exp_pos (-(1 / 2 * x))
    generalize Real.exp (1 / 2 * x) = a at *
    generalize Real.exp (-(1 / 2 * x)) = b at *
    have ha : a = 1 / b := by field_simp; linarith
    subst ha
    field_simp
    ring

/-- The logistic function's value is a real number everywhere. -/
theorem logistic_real (x : EReal) : ∃ z : ℝ, Ideal.logistic x = (z : EReal) := by
  induction x with
  | bot => exact ⟨0, Ideal.logistic_bot⟩
  | top => exact ⟨1, Ideal.logistic_top⟩
  | coe x => exact ⟨_, Ideal.logistic_coe x⟩

/-- The hyperbolic tangent's value is a real number everywhere. -/
theorem tanh_real (x : EReal) : ∃ n : ℝ, Ideal.tanh x = (n : EReal) := by
  induction x with
  | bot => exact ⟨-1, by rw [Ideal.tanh_bot, EReal.coe_neg, EReal.coe_one]⟩
  | top => exact ⟨1, by rw [Ideal.tanh_top, EReal.coe_one]⟩
  | coe x => exact ⟨_, Ideal.tanh_coe x⟩

/-- One coordinate of the new state: reset gate from `ai + ah`, update gate from `bi + bh`, candidate from `ci`, `ch` and the
    reset gate, the old state `h`. -/
def cell (ai ah bi bh ci ch h : EReal) : EReal :=
  (1 - Ideal.logistic (bi + bh)) * Ideal.tanh (ci + Ideal.logistic (ai + ah) * ch) + Ideal.logistic (bi + bh) * h

/-- The same coordinate as the candidate plus the update gate times the difference of the old state from it. -/
def cellDiff (ai ah bi bh ci ch h : EReal) : EReal :=
  Ideal.tanh (ci + Ideal.logistic (ai + ah) * ch)
    + Ideal.logistic (bi + bh) * (h - Ideal.tanh (ci + Ideal.logistic (ai + ah) * ch))

/-- At a real old state the two ways of mixing agree. -/
theorem cellDiff_eq_cell (ai ah bi bh ci ch : EReal) {h : EReal} (hh : ∃ y : ℝ, h = (y : EReal)) :
    cellDiff ai ah bi bh ci ch h = cell ai ah bi bh ci ch h := by
  obtain ⟨y, rfl⟩ := hh
  obtain ⟨z, hz⟩ := logistic_real (bi + bh)
  obtain ⟨n, hn⟩ := tanh_real (ci + Ideal.logistic (ai + ah) * ch)
  unfold cellDiff cell
  rw [hz, hn]
  norm_cast
  ring

/-- From a real old state the new one is real. -/
theorem cell_real (ai ah bi bh ci ch : EReal) {h : EReal} (hh : ∃ y : ℝ, h = (y : EReal)) :
    ∃ y : ℝ, cell ai ah bi bh ci ch h = (y : EReal) := by
  obtain ⟨y, rfl⟩ := hh
  obtain ⟨z, hz⟩ := logistic_real (bi + bh)
  obtain ⟨n, hn⟩ := tanh_real (ci + Ideal.logistic (ai + ah) * ch)
  refine ⟨(1 - z) * n + z * y, ?_⟩
  unfold cell
  rw [hz, hn]
  norm_cast

end Cert.Gru

end
-- ==== Proof.Rows.lean ====
/- The recurrence of one sentence: its states from zero, one word at a time, frozen from the sentence's length on. -/
module

public import proofs.«01_k».proof.Proof.Cell
public import Idealize.ShloMosaic.Lib.Pointwise

@[expose] public section

noncomputable section

namespace Cert.Gru

open Idealize.ShloMosaic

/-- A row times a weight matrix plus a bias: the gates' pre-activations of one row. -/
def affine (w : (⟨2, ![256, 768]⟩ : Shape).Idx → EReal) (b : Fin 768 → EReal) (v : Fin 256 → EReal) (j : Fin 768) : EReal :=
  (∑ k : Fin 256, v k * w (ix2 k j)) + b j

/-- Column `l` of the reset gate's part of the 768 columns … -/
def colR (l : Fin 256) : Fin 768 := ⟨l.val, by omega⟩
/-- … of the update gate's part … -/
def colZ (l : Fin 256) : Fin 768 := ⟨256 + l.val, by omega⟩
/-- … and of the candidate's. -/
def colN (l : Fin 256) : Fin 768 := ⟨512 + l.val, by omega⟩

/-- The new state of a row from its input's and its state's pre-activations. -/
def rowCell (gi gh : Fin 768 → EReal) (h : Fin 256 → EReal) (l : Fin 256) : EReal :=
  cell (gi (colR l)) (gh (colR l)) (gi (colZ l)) (gh (colZ l)) (gi (colN l)) (gh (colN l)) (h l)

/-- The state of one sentence before word `t`: zero at first; word `t` changes it while `t` is less than the length. -/
def state (wi wh : (⟨2, ![256, 768]⟩ : Shape).Idx → EReal) (bi bh : Fin 768 → EReal) (x : ℕ → Fin 256 → EReal) (len : ℤ) :
    ℕ → Fin 256 → EReal
  | 0 => fun _ => 0
  | t + 1 => fun l =>
    if (t : ℤ) < len then
      rowCell (affine wi bi (x t)) (affine wh bh (state wi wh bi bh x len t)) (state wi wh bi bh x len t) l
    else state wi wh bi bh x len t l

/-- Every coordinate of every state is a real number. -/
theorem state_real (wi wh : (⟨2, ![256, 768]⟩ : Shape).Idx → EReal) (bi bh : Fin 768 → EReal) (x : ℕ → Fin 256 → EReal)
    (len : ℤ) (t : ℕ) (l : Fin 256) : ∃ y : ℝ, state wi wh bi bh x len t l = (y : EReal) := by
  induction t with
  | zero => exact ⟨0, rfl⟩
  | succ t ih =>
    rw [state]
    split
    · exact cell_real _ _ _ _ _ _ ih
    · exact ih

end Cert.Gru

end
-- ==== Proof.KernelStep.lean ====
/- What the kernel computes for one half of the rows at one word, and for the eight words of a grid point. -/
module

public import proofs.«01_k».proof.Proof.Gen.KernelIdeal.Frame

@[expose] public section

noncomputable section

namespace Cert.Gru.K

open Idealize.ShloMosaic Cert.KernelIdeal Cert.KernelIdeal.Gen

variable {F : FTy → Type} [FloatOps F]

/-- The input's pre-activations of all 128 rows at one word. -/
def inputPre (w : FVec F S256x768 .f32) (b : FVec F S1x768 .f32) (x : FVec F S128x1x256 .f32) : FVec F S128x768 .f32 :=
  addf (matmul dot_S128x256_S256x768_S128x768_1_0_0_1_n_n none (shapeCast S128x256 x shapeCasts_S128x1x256_S128x256) w
      (constant S128x768 .f32 0x00000000#32))
    (broadcastTo S128x768 (shapeCast S1x768 b shapeCasts_S1x768_S1x768) broadcasts_S1x768_S128x768)

/-- The state's pre-activations of 64 rows. -/
def statePre (w : FVec F S256x768 .f32) (b : FVec F S1x768 .f32) (h : FVec F S64x256 .f32) : FVec F S64x768 .f32 :=
  addf (matmul dot_S64x256_S256x768_S64x768_1_0_0_1_n_n none h w (constant S64x768 .f32 0x00000000#32))
    (broadcastTo S64x768 (shapeCast S1x768 b shapeCasts_S1x768_S1x768) broadcasts_S1x768_S64x768)

/-- One half. -/
def half : FVec F S64x256 .f32 := broadcast S64x256 (Scalar.ofBits .f32 0x3F000000#32)

/-- A gate of 64 rows, from the columns that start at the given ones of the two pre-activations. -/
def gate (a b : FVec F S64x256 .f32) : FVec F S64x256 .f32 :=
  addf half (mulf half (tanh (mulf half (addf a b))))

/-- The new state of 64 rows where every row takes a word. -/
def mixed (gi gh : FVec F S64x768 .f32) (h : FVec F S64x256 .f32) : FVec F S64x256 .f32 :=
  let r := gate (extractStridedSlice S64x256 ![0, 0] gi slices_S64x768_o0_0_S64x256)
    (extractStridedSlice S64x256 ![0, 0] gh slices_S64x768_o0_0_S64x256)
  let z := gate (extractStridedSlice S64x256 ![0, 256] gi slices_S64x768_o0_256_S64x256)
    (extractStridedSlice S64x256 ![0, 256] gh slices_S64x768_o0_256_S64x256)
  let n := tanh (addf (extractStridedSlice S64x256 ![0, 512] gi slices_S64x768_o0_512_S64x256)
    (mulf r (extractStridedSlice S64x256 ![0, 512] gh slices_S64x768_o0_512_S64x256)))
  addf n (mulf z (subf h n))

/-- The new state of 64 rows: a row whose length is not beyond the word's number keeps its state. -/
def halfStep (t : BitVec 32) (lens : FVec F S64x1 .f32) (gi gh : FVec F S64x768 .f32) (h : FVec F S64x256 .f32) :
    FVec F S64x256 .f32 :=
  select (broadcastTo S64x256 (shapeCast S64x1 (cmpf .olt (broadcast S64x1 (Scalar.sitofp .f32 t)) lens)
    shapeCasts_S64x1_S64x1) broadcasts_S64x1_S64x256) (mixed gi gh h) h

/-- Word `k` for the first 64 rows: `t0` the point's first word, `x` the word of all rows. -/
def stepLo (t0 : BitVec 32) (k : BitVec 32) (lens : FVec F S128x1 .f32) (wi wh : FVec F S256x768 .f32)
    (bi bh : FVec F S1x768 .f32) (x : FVec F S128x1x256 .f32) (h : FVec F S64x256 .f32) : FVec F S64x256 .f32 :=
  halfStep (Scalar.addi t0 k) (extractStridedSlice S64x1 ![0, 0] (shapeCast S128x1 lens shapeCasts_S128x1_S128x1) slices_S128x1_o0_0_S64x1)
    (extractStridedSlice S64x768 ![0, 0] (inputPre wi bi x) slices_S128x768_o0_0_S64x768) (statePre wh bh h) h

/-- Word `k` for the last 64 rows. -/
def stepHi (t0 : BitVec 32) (k : BitVec 32) (lens : FVec F S128x1 .f32) (wi wh : FVec F S256x768 .f32)
    (bi bh : FVec F S1x768 .f32) (x : FVec F S128x1x256 .f32) (h : FVec F S64x256 .f32) : FVec F S64x256 .f32 :=
  halfStep (Scalar.addi t0 k) (extractStridedSlice S64x1 ![64, 0] (shapeCast S128x1 lens shapeCasts_S128x1_S128x1) slices_S128x1_o64_0_S64x1)
    (extractStridedSlice S64x768 ![64, 0] (inputPre wi bi x) slices_S128x768_o64_0_S64x768) (statePre wh bh h) h

/-- Word `k` of a point's eight lies inside them. -/
theorem word_inb (k : Fin 8) (a : Fin 3) : (![0, k.val, 0] : Fin 3 → Nat) a + S128x1x256.size a ≤ S128x8x256.size a := by
  fin_cases a
  · exact Nat.le_refl 128
  · exact Nat.succ_le_of_lt k.isLt
  · exact Nat.le_refl 256

/-- Word `k` of a point's eight, of all rows. -/
def word (x : FVec F S128x8x256 .f32) (k : Fin 8) : FVec F S128x1x256 .f32 :=
  View.ld (Val := Elt F) (e' := .f32) x (Rect.unit (s := S128x8x256) ![0, k.val, 0] S128x1x256.size (word_inb k))

/-- The first word of a grid point. -/
def firstWord (i : grid0.Coords) : BitVec 32 := Scalar.muli (BitVec.ofNat 32 (i 0).val) 8#32

/-- The eight words of a point for the first 64 rows … -/
def blockLo (i : grid0.Coords) (x : FVec F S128x8x256 .f32) (lens : FVec F S128x1 .f32) (wi wh : FVec F S256x768 .f32)
    (bi bh : FVec F S1x768 .f32) (h : FVec F S64x256 .f32) : FVec F S64x256 .f32 :=
  let s := fun k y g => stepLo (firstWord i) k lens wi wh bi bh y g
  s 7#32 (word x 7) (s 6#32 (word x 6) (s 5#32 (word x 5) (s 4#32 (word x 4)
    (s 3#32 (word x 3) (s 2#32 (word x 2) (s 1#32 (word x 1) (s 0#32 (word x 0) h)))))))

/-- … and for the last 64. -/
def blockHi (i : grid0.Coords) (x : FVec F S128x8x256 .f32) (lens : FVec F S128x1 .f32) (wi wh : FVec F S256x768 .f32)
    (bi bh : FVec F S1x768 .f32) (h : FVec F S64x256 .f32) : FVec F S64x256 .f32 :=
  let s := fun k y g => stepHi (firstWord i) k lens wi wh bi bh y g
  s 7#32 (word x 7) (s 6#32 (word x 6) (s 5#32 (word x 5) (s 4#32 (word x 4)
    (s 3#32 (word x 3) (s 2#32 (word x 2) (s 1#32 (word x 1) (s 0#32 (word x 0) h)))))))

/-- Rows 0 to 63 and rows 64 to 127 of an array. -/
def rowsLo (h : FVec F S128x256 .f32) : FVec F S64x256 .f32 := View.ld (Val := Elt F) (e' := .f32) h (Rect.unit (s := S128x256) ![0, 0] S64x256.size inb_S128x256_S64x256_0_0)
def rowsHi (h : FVec F S128x256 .f32) : FVec F S64x256 .f32 := View.ld (Val := Elt F) (e' := .f32) h (Rect.unit (s := S128x256) ![64, 0] S64x256.size inb_S128x256_S64x256_64_0)

/-- The two halves as the stores leave them. -/
def pieces (lo hi : FVec F S64x256 .f32) : List (View.Piece (Elt F) S128x256 .f32) :=
  [⟨Rect.unit (s := S128x256) ![64, 0] S64x256.size inb_S128x256_S64x256_64_0, hi⟩,
   ⟨Rect.unit (s := S128x256) ![0, 0] S64x256.size inb_S128x256_S64x256_0_0, lo⟩]

end Cert.Gru.K

end
-- ==== Proof.KernelRows.lean ====
/- One word of the kernel at one row: the step from a sentence's state before the word to the one after it. -/
module

public import proofs.«01_k».proof.Proof.Rows
public import proofs.«01_k».proof.Proof.KernelStep
public import Idealize.ShloMosaic.Lib.Pipeline.Value

@[expose] public section

set_option maxRecDepth 16384

noncomputable section

namespace Cert.Gru.K

open Idealize.ShloMosaic Cert.KernelIdeal Cert.KernelIdeal.Gen

/-- Row `r` of the first 64 among the 128, and of the last 64. -/
def lo (r : Fin 64) : Fin 128 := ⟨r.val, by omega⟩
def hi (r : Fin 64) : Fin 128 := ⟨64 + r.val, by omega⟩

/-- The one row of a bias. -/
def biasRow (b : FVec Ideal S1x768 .f32) (j : Fin 768) : EReal := b (ix2 0 j)

/-- A row of the input's pre-activations. -/
theorem inputPre_apply (w : FVec Ideal S256x768 .f32) (b : FVec Ideal S1x768 .f32) (x : FVec Ideal S128x1x256 .f32)
    (r : Fin 128) (j : Fin 768) :
    inputPre w b x (ix2 r j) = affine w (biasRow b) (fun k => x (ix3 r 0 k)) j := by
  unfold inputPre affine biasRow
  pointwise [dot_S128x256_S256x768_S128x768_1_0_0_1_n_n]

/-- A row of the state's pre-activations. -/
theorem statePre_apply (w : FVec Ideal S256x768 .f32) (b : FVec Ideal S1x768 .f32) (h : FVec Ideal S64x256 .f32)
    (r : Fin 64) (j : Fin 768) :
    statePre w b h (ix2 r j) = affine w (biasRow b) (fun k => h (ix2 r k)) j := by
  unfold statePre affine biasRow
  pointwise [dot_S64x256_S256x768_S64x768_1_0_0_1_n_n]

/-- A gate is the logistic function of the sum. -/
theorem gate_apply (a b : FVec Ideal S64x256 .f32) (r : Fin 64) (l : Fin 256) :
    gate a b (ix2 r l) = Ideal.logistic (a (ix2 r l) + b (ix2 r l)) := by
  rw [← half_tanh, ← half_word]
  rfl

/-- The new state of a row that takes the word. -/
theorem mixed_apply (gi gh : FVec Ideal S64x768 .f32) (h : FVec Ideal S64x256 .f32) (r : Fin 64) (l : Fin 256) :
    mixed gi gh h (ix2 r l) = cellDiff (gi (ix2 r (colR l))) (gh (ix2 r (colR l))) (gi (ix2 r (colZ l))) (gh (ix2 r (colZ l)))
      (gi (ix2 r (colN l))) (gh (ix2 r (colN l))) (h (ix2 r l)) := by
  have e0 (g : FVec Ideal S64x768 .f32) : extractStridedSlice S64x256 ![0, 0] g slices_S64x768_o0_0_S64x256 (ix2 r l) = g (ix2 r (colR l)) := by
    pointwise [colR]
  have e1 (g : FVec Ideal S64x768 .f32) : extractStridedSlice S64x256 ![0, 256] g slices_S64x768_o0_256_S64x256 (ix2 r l) = g (ix2 r (colZ l)) := by
    pointwise [colZ]
  have e2 (g : FVec Ideal S64x768 .f32) : extractStridedSlice S64x256 ![0, 512] g slices_S64x768_o0_512_S64x256 (ix2 r l) = g (ix2 r (colN l)) := by
    pointwise [colN]
  unfold mixed cellDiff
  pointwise [gate_apply, e0, e1, e2]

/-- A row takes the word while the word's number is less than its length. -/
theorem halfStep_apply (t : BitVec 32) (lens : FVec Ideal S64x1 .f32) (gi gh : FVec Ideal S64x768 .f32)
    (h : FVec Ideal S64x256 .f32) (r : Fin 64) (l : Fin 256) (L : ℤ) (hL : lens (ix2 r 0) = ((L : ℝ) : EReal)) :
    halfStep t lens gi gh h (ix2 r l) = if t.toInt < L then mixed gi gh h (ix2 r l) else h (ix2 r l) := by
  unfold halfStep
  pointwise [hL]
  simp only [EReal.coe_lt_coe_iff, Int.cast_lt]

/-- Word `k` of a point, read off the point's eight. -/
theorem word_apply (x : FVec Ideal S128x8x256 .f32) (k : Fin 8) (r : Fin 128) (l : Fin 256) :
    word x k (ix3 r 0 l) = x (ix3 r k l) := by
  unfold word
  refine congrArg x ?_
  funext a; apply Fin.ext
  fin_cases a
  · show 0 + 1 * r.val = r.val; omega
  · show k.val + 1 * 0 = k.val; omega
  · show 0 + 1 * l.val = l.val; omega

/-- The number of word `k` of a point. -/
theorem word_number (i : grid0.Coords) (k : Fin 8) :
    (Scalar.addi (firstWord i) (BitVec.ofNat 32 k.val)).toInt = ((8 * (i 0).val + k.val : ℕ) : ℤ) := by
  have h : ∀ (n k : Fin 8), (Scalar.addi (Scalar.muli (BitVec.ofNat 32 n.val) 8#32) (BitVec.ofNat 32 k.val)).toInt
      = ((8 * n.val + k.val : ℕ) : ℤ) := by decide
  exact h (i 0) k

/-- One word of the first 64 rows takes each row's sentence from its state before the word to the one after it. -/
theorem stepLo_row (i : grid0.Coords) (k : Fin 8) (x : FVec Ideal S128x8x256 .f32) (lens : FVec Ideal S128x1 .f32)
    (wi wh : FVec Ideal S256x768 .f32) (bi bh : FVec Ideal S1x768 .f32) (h : FVec Ideal S64x256 .f32) (r : Fin 64)
    (X : ℕ → Fin 256 → EReal) (L : ℤ) (hx : ∀ (k : Fin 8) l, x (ix3 (lo r) k l) = X (8 * (i 0).val + k.val) l)
    (hL : lens (ix2 (lo r) 0) = ((L : ℝ) : EReal))
    (hh : ∀ l, h (ix2 r l) = state wi wh (biasRow bi) (biasRow bh) X L (8 * (i 0).val + k.val) l) (l : Fin 256) :
    stepLo (firstWord i) (BitVec.ofNat 32 k.val) lens wi wh bi bh (word x k) h (ix2 r l)
      = state wi wh (biasRow bi) (biasRow bh) X L (8 * (i 0).val + k.val + 1) l := by
  have e (g : FVec Ideal S128x768 .f32) (j : Fin 768) :
      extractStridedSlice S64x768 ![0, 0] g slices_S128x768_o0_0_S64x768 (ix2 r j) = g (ix2 (lo r) j) := by
    pointwise [lo]
  have eL : extractStridedSlice S64x1 ![0, 0] (shapeCast S128x1 lens shapeCasts_S128x1_S128x1) slices_S128x1_o0_0_S64x1 (ix2 r 0)
      = ((L : ℝ) : EReal) := by
    rw [shapeCast_self, ← hL]
    pointwise [lo]
  have ex : (fun c => word x k (ix3 (lo r) 0 c)) = X (8 * (i 0).val + k.val) := by
    funext c; rw [word_apply, hx]
  have eh : (fun c => h (ix2 r c)) = state wi wh (biasRow bi) (biasRow bh) X L (8 * (i 0).val + k.val) := funext hh
  unfold stepLo
  rw [halfStep_apply _ _ _ _ _ _ _ L eL, word_number, mixed_apply, state]
  simp only [e, inputPre_apply, statePre_apply, ex, eh, hh]
  rw [cellDiff_eq_cell _ _ _ _ _ _ (state_real wi wh (biasRow bi) (biasRow bh) X L (8 * (i 0).val + k.val) l)]
  rfl

/-- The eight words of a point take each of the first 64 rows eight words on. -/
theorem blockLo_row (i : grid0.Coords) (x : FVec Ideal S128x8x256 .f32) (lens : FVec Ideal S128x1 .f32)
    (wi wh : FVec Ideal S256x768 .f32) (bi bh : FVec Ideal S1x768 .f32) (h : FVec Ideal S64x256 .f32) (r : Fin 64)
    (X : ℕ → Fin 256 → EReal) (L : ℤ) (hx : ∀ (k : Fin 8) l, x (ix3 (lo r) k l) = X (8 * (i 0).val + k.val) l)
    (hL : lens (ix2 (lo r) 0) = ((L : ℝ) : EReal))
    (hh : ∀ l, h (ix2 r l) = state wi wh (biasRow bi) (biasRow bh) X L (8 * (i 0).val) l) (l : Fin 256) :
    blockLo i x lens wi wh bi bh h (ix2 r l)
      = state wi wh (biasRow bi) (biasRow bh) X L (8 * (i 0).val + 8) l := by
  have s := fun k g hg l => stepLo_row i k x lens wi wh bi bh g r X L hx hL hg l
  exact s 7 _ (s 6 _ (s 5 _ (s 4 _ (s 3 _ (s 2 _ (s 1 _ (s 0 _ hh))))))) l

/-- One word of the last 64 rows takes each row's sentence from its state before the word to the one after it. -/
theorem stepHi_row (i : grid0.Coords) (k : Fin 8) (x : FVec Ideal S128x8x256 .f32) (lens : FVec Ideal S128x1 .f32)
    (wi wh : FVec Ideal S256x768 .f32) (bi bh : FVec Ideal S1x768 .f32) (h : FVec Ideal S64x256 .f32) (r : Fin 64)
    (X : ℕ → Fin 256 → EReal) (L : ℤ) (hx : ∀ (k : Fin 8) l, x (ix3 (hi r) k l) = X (8 * (i 0).val + k.val) l)
    (hL : lens (ix2 (hi r) 0) = ((L : ℝ) : EReal))
    (hh : ∀ l, h (ix2 r l) = state wi wh (biasRow bi) (biasRow bh) X L (8 * (i 0).val + k.val) l) (l : Fin 256) :
    stepHi (firstWord i) (BitVec.ofNat 32 k.val) lens wi wh bi bh (word x k) h (ix2 r l)
      = state wi wh (biasRow bi) (biasRow bh) X L (8 * (i 0).val + k.val + 1) l := by
  have e (g : FVec Ideal S128x768 .f32) (j : Fin 768) :
      extractStridedSlice S64x768 ![64, 0] g slices_S128x768_o64_0_S64x768 (ix2 r j) = g (ix2 (hi r) j) := by
    pointwise [hi]
  have eL : extractStridedSlice S64x1 ![64, 0] (shapeCast S128x1 lens shapeCasts_S128x1_S128x1) slices_S128x1_o64_0_S64x1 (ix2 r 0)
      = ((L : ℝ) : EReal) := by
    rw [shapeCast_self, ← hL]
    pointwise [hi]
  have ex : (fun c => word x k (ix3 (hi r) 0 c)) = X (8 * (i 0).val + k.val) := by
    funext c; rw [word_apply, hx]
  have eh : (fun c => h (ix2 r c)) = state wi wh (biasRow bi) (biasRow bh) X L (8 * (i 0).val + k.val) := funext hh
  unfold stepHi
  rw [halfStep_apply _ _ _ _ _ _ _ L eL, word_number, mixed_apply, state]
  simp only [e, inputPre_apply, statePre_apply, ex, eh, hh]
  rw [cellDiff_eq_cell _ _ _ _ _ _ (state_real wi wh (biasRow bi) (biasRow bh) X L (8 * (i 0).val + k.val) l)]
  rfl

/-- The eight words of a point take each of the last 64 rows eight words on. -/
theorem blockHi_row (i : grid0.Coords) (x : FVec Ideal S128x8x256 .f32) (lens : FVec Ideal S128x1 .f32)
    (wi wh : FVec Ideal S256x768 .f32) (bi bh : FVec Ideal S1x768 .f32) (h : FVec Ideal S64x256 .f32) (r : Fin 64)
    (X : ℕ → Fin 256 → EReal) (L : ℤ) (hx : ∀ (k : Fin 8) l, x (ix3 (hi r) k l) = X (8 * (i 0).val + k.val) l)
    (hL : lens (ix2 (hi r) 0) = ((L : ℝ) : EReal))
    (hh : ∀ l, h (ix2 r l) = state wi wh (biasRow bi) (biasRow bh) X L (8 * (i 0).val) l) (l : Fin 256) :
    blockHi i x lens wi wh bi bh h (ix2 r l)
      = state wi wh (biasRow bi) (biasRow bh) X L (8 * (i 0).val + 8) l := by
  have s := fun k g hg l => stepHi_row i k x lens wi wh bi bh g r X L hx hL hg l
  exact s 7 _ (s 6 _ (s 5 _ (s 4 _ (s 3 _ (s 2 _ (s 1 _ (s 0 _ hh))))))) l

end Cert.Gru.K

end
-- ==== Proof.KernelBlock.lean ====
/- What a grid point leaves in the state's buffer, and the last one in the result: the two halves after eight words. -/
module

public import proofs.«01_k».proof.Proof.KernelStep
public import Idealize.ShloMosaic.Lib.Pipeline.ValueKit.Basic

@[expose] public section

set_option maxRecDepth 16384

noncomputable section

namespace Cert.Gru.K

open Idealize.ShloMosaic Cert.KernelIdeal Cert.KernelIdeal.Gen

variable {F : FTy → Type} [FloatOps F]

/-- The zeros the first point writes into the state's buffer. -/
def zeros : FVec F S128x256 .f32 :=
  shapeCast S128x256 (broadcast S128x256 (Scalar.ofBits .f32 0x00000000#32)) shapeCasts_S128x256_S128x256

/-- The state of all rows after the eight words of a point. -/
def blockNew (i : grid0.Coords) (x : FVec F S128x8x256 .f32) (lens : FVec F S128x1 .f32) (wi wh : FVec F S256x768 .f32)
    (bi bh : FVec F S1x768 .f32) (h : FVec F S128x256 .f32) : FVec F S128x256 .f32 :=
  View.canon (pieces (blockLo i x lens wi wh bi bh (rowsLo h)) (blockHi i x lens wi wh bi bh (rowsHi h)))

/-- The rectangles that start at the origin start at zero on both axes. -/
theorem zero2 (a : Fin 2) : (![0, 0] : Fin 2 → Nat) a = 0 := by fin_cases a <;> rfl

/-- The two halves hold every index of the array. -/
theorem pieces_cover (lo hi : FVec F S64x256 .f32) (y : S128x256.Idx) : ∃ p ∈ pieces lo hi, y ∈ p.1.set :=
  View.cover_of_tiledL (pieces lo hi) S64x256.size (by sl_kernel_rfl) y

/-- Where the pieces of a list hold an index, nothing older is read there. -/
theorem canon_append {s : Shape} {e : EltTy} (y : s.Idx) (L' : List (View.Piece (Elt F) s e)) :
    ∀ L : List (View.Piece (Elt F) s e), (∃ p ∈ L, y ∈ p.1.set) → View.canon (L ++ L') y = View.canon L y
  | [], h => by obtain ⟨p, hp, _⟩ := h; cases hp
  | ⟨r, w⟩ :: L, h => by
    rw [List.cons_append]
    by_cases hy : y ∈ r.set
    · obtain ⟨x, rfl⟩ : ∃ x, r.emb x = y := r.exists_idx_of_mem hy
      rw [View.canon_cons_emb, View.canon_cons_emb]
    · rw [View.canon_cons_of_not_mem _ _ hy, View.canon_cons_of_not_mem _ _ hy]
      refine canon_append y L' L ?_
      obtain ⟨p, hp, hm⟩ := h
      rcases List.mem_cons.mp hp with rfl | hp
      · exact absurd hm hy
      · exact ⟨p, hp, hm⟩

/-- Under the two halves nothing older is read. -/
theorem canon_pieces_append (lo hi : FVec F S64x256 .f32) (L : List (View.Piece (Elt F) S128x256 .f32)) :
    View.canon (pieces lo hi ++ L) = View.canon (pieces lo hi) :=
  funext fun y => canon_append y L _ (pieces_cover lo hi y)

/-- The stores of the first point: both halves go on from the zeros it has written. -/
theorem pieces_first (c : Dev nD) (i : grid0.Coords) (arg1 : Memref sig .tc .vmem S128x8x256 .f32) (harg1 : arg1.IsWhole) (arg2 : Memref sig .tc .vmem S128x1 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬ cond0_1 i)
    (x0 : Vec F S128x8x256 .f32) (x1 : Vec F S128x1 .f32) (x2 x3 : Vec F S256x768 .f32) (x4 x5 : Vec F S1x768 .f32) :
    (kernelRun0_A c i arg1 harg1 arg2 harg2 arg3 harg3 arg4 harg4 arg5 harg5 arg6 harg6 arg7 harg7 arg8 harg8 hc0 hc1 x0 x1 x2 x3 x4 x5).2.1
      = pieces (F := F)
        (shapeCast S64x256 (blockLo i (arg1.view.read (Elt F) (harg1.unread x0))
          (View.ld (arg2.view.read (Elt F) (harg2.unread x1)) (Rect.unit (s := S128x1) ![0, 0] S128x1.size inb_S128x1_S128x1_0_0))
          (View.ld (arg3.view.read (Elt F) (harg3.unread x2)) (Rect.unit (s := S256x768) ![0, 0] S256x768.size inb_S256x768_S256x768_0_0))
          (View.ld (arg4.view.read (Elt F) (harg4.unread x3)) (Rect.unit (s := S256x768) ![0, 0] S256x768.size inb_S256x768_S256x768_0_0))
          (View.ld (arg5.view.read (Elt F) (harg5.unread x4)) (Rect.unit (s := S1x768) ![0, 0] S1x768.size inb_S1x768_S1x768_0_0))
          (View.ld (arg6.view.read (Elt F) (harg6.unread x5)) (Rect.unit (s := S1x768) ![0, 0] S1x768.size inb_S1x768_S1x768_0_0))
          (rowsLo (arg8.view.read (Elt F) (arg8.view.writes (Elt F) arg8.view.junk [⟨Rect.unit (s := S128x256) ![0, 0] S128x256.size inb_S128x256_S128x256_0_0, zeros⟩])))) shapeCasts_S64x256_S64x256)
        (shapeCast S64x256 (blockHi i (arg1.view.read (Elt F) (harg1.unread x0))
          (View.ld (arg2.view.read (Elt F) (harg2.unread x1)) (Rect.unit (s := S128x1) ![0, 0] S128x1.size inb_S128x1_S128x1_0_0))
          (View.ld (arg3.view.read (Elt F) (harg3.unread x2)) (Rect.unit (s := S256x768) ![0, 0] S256x768.size inb_S256x768_S256x768_0_0))
          (View.ld (arg4.view.read (Elt F) (harg4.unread x3)) (Rect.unit (s := S256x768) ![0, 0] S256x768.size inb_S256x768_S256x768_0_0))
          (View.ld (arg5.view.read (Elt F) (harg5.unread x4)) (Rect.unit (s := S1x768) ![0, 0] S1x768.size inb_S1x768_S1x768_0_0))
          (View.ld (arg6.view.read (Elt F) (harg6.unread x5)) (Rect.unit (s := S1x768) ![0, 0] S1x768.size inb_S1x768_S1x768_0_0))
          (rowsHi (arg8.view.read (Elt F) (arg8.view.writes (Elt F) arg8.view.junk [⟨Rect.unit (s := S128x256) ![0, 0] S128x256.size inb_S128x256_S128x256_0_0, zeros⟩])))) shapeCasts_S64x256_S64x256)
        ++ [⟨Rect.unit (s := S128x256) ![0, 0] S128x256.size inb_S128x256_S128x256_0_0, zeros⟩] := by
  sl_kernel_rfl

/-- The stores of a point between the first and the last: both halves go on from the rows the point before left. -/
theorem pieces_middle (c : Dev nD) (i : grid0.Coords) (arg1 : Memref sig .tc .vmem S128x8x256 .f32) (harg1 : arg1.IsWhole) (arg2 : Memref sig .tc .vmem S128x1 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S128x256 .f32) (harg7 : arg7.IsWhole) (arg8 : Memref sig .tc .vmem S128x256 .f32) (harg8 : arg8.IsWhole) (hc0 : ¬ cond0_0 i) (hc1 : ¬ cond0_1 i)
    (x0 : Vec F S128x8x256 .f32) (x1 : Vec F S128x1 .f32) (x2 x3 : Vec F S256x768 .f32) (x4 x5 : Vec F S1x768 .f32) (xs : Vec F S128x256 .f32) :
    (kernelRun0_B c i arg1 harg1 arg2 harg2 arg3 harg3 arg4 harg4 arg5 harg5 arg6 harg6 arg7 harg7 arg8 harg8 hc0 hc1 x0 x1 x2 x3 x4 x5 xs).2.1
      = pieces (F := F)
        (shapeCast S64x256 (blockLo i (arg1.view.read (Elt F) (harg1.unread x0))
          (View.ld (arg2.view.read (Elt F) (harg2.unread x1)) (Rect.unit (s := S128x1) ![0, 0] S128x1.size inb_S128x1_S128x1_0_0))
          (View.ld (arg3.view.read (Elt F) (harg3.unread x2)) (Rect.unit (s := S256x768) ![0, 0] S256x768.size inb_S256x768_S256x768_0_0))
          (View.ld (arg4.view.read (Elt F) (harg4.unread x3)) (Rect.unit (s := S256x768) ![0, 0] S256x768.size inb_S256x768_S256x768_0_0))
          (View.ld (arg5.view.read (Elt F) (harg5.unread x4)) (Rect.unit (s := S1x768) ![0, 0] S1x768.size inb_S1x768_S1x768_0_0))
          (View.ld (arg6.view.read (Elt F) (harg6.unread x5)) (Rect.unit (s := S1x768) ![0, 0] S1x768.size inb_S1x768_S1x768_0_0))
          (rowsLo (arg8.view.read (Elt F) (harg8.unread xs)))) shapeCasts_S64x256_S64x256)
        (shapeCast S64x256 (blockHi i (arg1.view.read (Elt F) (harg1.unread x0))
          (View.ld (arg2.view.read (Elt F) (harg2.unread x1)) (Rect.unit (s := S128x1) ![0, 0] S128x1.size inb_S128x1_S128x1_0_0))
          (View.ld (arg3.view.read (Elt F) (harg3.unread x2)) (Rect.unit (s := S256x768) ![0, 0] S256x768.size inb_S256x768_S256x768_0_0))
          (View.ld (arg4.view.read (Elt F) (harg4.unread x3)) (Rect.unit (s := S256x768) ![0, 0] S256x768.size inb_S256x768_S256x768_0_0))
          (View.ld (arg5.view.read (Elt F) (harg5.unread x4)) (Rect.unit (s := S1x768) ![0, 0] S1x768.size inb_S1x768_S1x768_0_0))
          (View.ld (arg6.view.read (Elt F) (harg6.unread x5)) (Rect.unit (s := S1x768) ![0, 0] S1x768.size inb_S1x768_S1x768_0_0))
          (rowsHi (arg8.view.read (Elt F) (harg8.unread xs)))) shapeCasts_S64x256_S64x256) := by
  sl_kernel_rfl

/-- The stores of the last point into the result. -/
theorem pieces_last (c : Dev nD) (i : grid0.Coords) (arg1 : Memref sig .tc .vmem S128x8x256 .f32) (harg1 : arg1.IsWhole) (arg2 : Memref sig .tc .vmem S128x1 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S128x256 .f32) (harg7 : arg7.IsWhole) (arg8 : Memref sig .tc .vmem S128x256 .f32) (harg8 : arg8.IsWhole) (hc0 : ¬ cond0_0 i) (hc1 : cond0_1 i)
    (x0 : Vec F S128x8x256 .f32) (x1 : Vec F S128x1 .f32) (x2 x3 : Vec F S256x768 .f32) (x4 x5 : Vec F S1x768 .f32) (xs : Vec F S128x256 .f32) :
    (kernelRun0_C c i arg1 harg1 arg2 harg2 arg3 harg3 arg4 harg4 arg5 harg5 arg6 harg6 arg7 harg7 arg8 harg8 hc0 hc1 x0 x1 x2 x3 x4 x5 xs).1
      = pieces (F := F)
        (blockLo i (arg1.view.read (Elt F) (harg1.unread x0))
          (View.ld (arg2.view.read (Elt F) (harg2.unread x1)) (Rect.unit (s := S128x1) ![0, 0] S128x1.size inb_S128x1_S128x1_0_0))
          (View.ld (arg3.view.read (Elt F) (harg3.unread x2)) (Rect.unit (s := S256x768) ![0, 0] S256x768.size inb_S256x768_S256x768_0_0))
          (View.ld (arg4.view.read (Elt F) (harg4.unread x3)) (Rect.unit (s := S256x768) ![0, 0] S256x768.size inb_S256x768_S256x768_0_0))
          (View.ld (arg5.view.read (Elt F) (harg5.unread x4)) (Rect.unit (s := S1x768) ![0, 0] S1x768.size inb_S1x768_S1x768_0_0))
          (View.ld (arg6.view.read (Elt F) (harg6.unread x5)) (Rect.unit (s := S1x768) ![0, 0] S1x768.size inb_S1x768_S1x768_0_0))
          (rowsLo (arg8.view.read (Elt F) (harg8.unread xs))))
        (blockHi i (arg1.view.read (Elt F) (harg1.unread x0))
          (View.ld (arg2.view.read (Elt F) (harg2.unread x1)) (Rect.unit (s := S128x1) ![0, 0] S128x1.size inb_S128x1_S128x1_0_0))
          (View.ld (arg3.view.read (Elt F) (harg3.unread x2)) (Rect.unit (s := S256x768) ![0, 0] S256x768.size inb_S256x768_S256x768_0_0))
          (View.ld (arg4.view.read (Elt F) (harg4.unread x3)) (Rect.unit (s := S256x768) ![0, 0] S256x768.size inb_S256x768_S256x768_0_0))
          (View.ld (arg5.view.read (Elt F) (harg5.unread x4)) (Rect.unit (s := S1x768) ![0, 0] S1x768.size inb_S1x768_S1x768_0_0))
          (View.ld (arg6.view.read (Elt F) (harg6.unread x5)) (Rect.unit (s := S1x768) ![0, 0] S1x768.size inb_S1x768_S1x768_0_0))
          (rowsHi (arg8.view.read (Elt F) (harg8.unread xs)))) := by
  sl_kernel_rfl

/-- The state the first point leaves. -/
theorem left_first (c : Dev nD) (i : grid0.Coords) (arg1 : Memref sig .tc .vmem S128x8x256 .f32) (harg1 : arg1.IsWhole) (arg2 : Memref sig .tc .vmem S128x1 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S128x256 .f32) (harg7 : arg7.IsWhole) (arg8 : Memref sig .tc .vmem S128x256 .f32) (harg8 : arg8.IsWhole) (hc0 : cond0_0 i) (hc1 : ¬ cond0_1 i)
    (x0 : Vec F S128x8x256 .f32) (x1 : Vec F S128x1 .f32) (x2 x3 : Vec F S256x768 .f32) (x4 x5 : Vec F S1x768 .f32) :
    sout0_A_0 c i arg1 harg1 arg2 harg2 arg3 harg3 arg4 harg4 arg5 harg5 arg6 harg6 arg7 harg7 arg8 harg8 hc0 hc1 x0 x1 x2 x3 x4 x5 = blockNew i x0 x1 x2 x3 x4 x5 (zeros (F := F)) := by
  unfold sout0_A_0 blockNew
  rw [View.read_writes_junk_eq_canon, pieces_first, harg1.read_unread, harg2.read_unread, harg3.read_unread, harg4.read_unread,
    harg5.read_unread, harg6.read_unread, View.read_writes_junk_eq_canon, View.ld_unit_lit _ _ zero2, View.ld_unit_lit _ _ zero2,
    View.ld_unit_lit _ _ zero2, View.ld_unit_lit _ _ zero2, View.ld_unit_lit _ _ zero2, View.canon_cons_unit_lit _ _ _ zero2, canon_pieces_append]
  rw [shapeCast_self, shapeCast_self]

/-- The state a point between the first and the last leaves. -/
theorem left_middle (c : Dev nD) (i : grid0.Coords) (arg1 : Memref sig .tc .vmem S128x8x256 .f32) (harg1 : arg1.IsWhole) (arg2 : Memref sig .tc .vmem S128x1 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S128x256 .f32) (harg7 : arg7.IsWhole) (arg8 : Memref sig .tc .vmem S128x256 .f32) (harg8 : arg8.IsWhole) (hc0 : ¬ cond0_0 i) (hc1 : ¬ cond0_1 i)
    (x0 : Vec F S128x8x256 .f32) (x1 : Vec F S128x1 .f32) (x2 x3 : Vec F S256x768 .f32) (x4 x5 : Vec F S1x768 .f32) (xs : Vec F S128x256 .f32) :
    sout0_B_0 c i arg1 harg1 arg2 harg2 arg3 harg3 arg4 harg4 arg5 harg5 arg6 harg6 arg7 harg7 arg8 harg8 hc0 hc1 x0 x1 x2 x3 x4 x5 xs = blockNew i x0 x1 x2 x3 x4 x5 xs := by
  unfold sout0_B_0 blockNew
  rw [View.read_writes_junk_eq_canon, pieces_middle, harg1.read_unread, harg2.read_unread, harg3.read_unread, harg4.read_unread,
    harg5.read_unread, harg6.read_unread, harg8.read_unread, View.ld_unit_lit _ _ zero2, View.ld_unit_lit _ _ zero2,
    View.ld_unit_lit _ _ zero2, View.ld_unit_lit _ _ zero2, View.ld_unit_lit _ _ zero2]
  rw [shapeCast_self, shapeCast_self]

/-- The result the last point leaves. -/
theorem left_last (c : Dev nD) (i : grid0.Coords) (arg1 : Memref sig .tc .vmem S128x8x256 .f32) (harg1 : arg1.IsWhole) (arg2 : Memref sig .tc .vmem S128x1 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S128x256 .f32) (harg7 : arg7.IsWhole) (arg8 : Memref sig .tc .vmem S128x256 .f32) (harg8 : arg8.IsWhole) (hc0 : ¬ cond0_0 i) (hc1 : cond0_1 i)
    (x0 : Vec F S128x8x256 .f32) (x1 : Vec F S128x1 .f32) (x2 x3 : Vec F S256x768 .f32) (x4 x5 : Vec F S1x768 .f32) (xs : Vec F S128x256 .f32) :
    out0_C_6 c i arg1 harg1 arg2 harg2 arg3 harg3 arg4 harg4 arg5 harg5 arg6 harg6 arg7 harg7 arg8 harg8 hc0 hc1 x0 x1 x2 x3 x4 x5 xs = blockNew i x0 x1 x2 x3 x4 x5 xs := by
  unfold out0_C_6 blockNew
  rw [View.read_writes_junk_eq_canon, pieces_last, harg1.read_unread, harg2.read_unread, harg3.read_unread, harg4.read_unread,
    harg5.read_unread, harg6.read_unread, harg8.read_unread, View.ld_unit_lit _ _ zero2, View.ld_unit_lit _ _ zero2,
    View.ld_unit_lit _ _ zero2, View.ld_unit_lit _ _ zero2, View.ld_unit_lit _ _ zero2]

end Cert.Gru.K

end
-- ==== Proof.KernelArray.lean ====
/- The kernel's result, row by row: each sentence's state after its 64 words. -/
module

public import proofs.«01_k».proof.Proof.Inputs
public import proofs.«01_k».proof.Proof.KernelRows
public import proofs.«01_k».proof.Proof.KernelBlock
public import proofs.«01_k».proof.Proof.Gen.KernelIdeal.Value
public import Idealize.ShloMosaic.Lib.Pipeline.ValueKit.Point

@[expose] public section

set_option maxRecDepth 16384

noncomputable section

namespace Cert.Gru.K

open Idealize.ShloMosaic Idealize.ShloMosaic.TcCoe Cert.KernelIdeal Cert.KernelIdeal.Gen Cert.KernelIdeal.Value

/-- The first 64 rows of what the two stores leave … -/
theorem canon_pieces_lo (a b : FVec Ideal S64x256 .f32) (r : Fin 64) (l : Fin 256) :
    View.canon (pieces a b) (ix2 (lo r) l) = a (ix2 r l) := by
  have h1 : (ix2 (lo r) l : S128x256.Idx) ∉ (Rect.unit (s := S128x256) ![64, 0] S64x256.size inb_S128x256_S64x256_64_0).set :=
    Rect.not_mem_set_of_axis _ _ 0 64 64 rfl rfl rfl (.inl r.isLt)
  have e : (Rect.unit (s := S128x256) ![0, 0] S64x256.size inb_S128x256_S64x256_0_0).emb (ix2 r l) = (ix2 (lo r) l : S128x256.Idx) := by
    funext x; apply Fin.ext
    fin_cases x
    · show 0 + 1 * r.val = r.val; omega
    · show 0 + 1 * l.val = l.val; omega
  unfold pieces
  refine (View.canon_cons_of_not_mem (⟨Rect.unit (s := S128x256) ![64, 0] S64x256.size inb_S128x256_S64x256_64_0, b⟩ :
    View.Piece (Elt Ideal) S128x256 .f32) _ h1).trans ?_
  rw [← e]
  exact View.canon_cons_emb (Val := Elt Ideal) (e := .f32) (Rect.unit (s := S128x256) ![0, 0] S64x256.size inb_S128x256_S64x256_0_0) a _ _

/-- … and the last 64. -/
theorem canon_pieces_hi (a b : FVec Ideal S64x256 .f32) (r : Fin 64) (l : Fin 256) :
    View.canon (pieces a b) (ix2 (hi r) l) = b (ix2 r l) := by
  have e : (Rect.unit (s := S128x256) ![64, 0] S64x256.size inb_S128x256_S64x256_64_0).emb (ix2 r l) = (ix2 (hi r) l : S128x256.Idx) := by
    funext x; apply Fin.ext
    fin_cases x
    · show 64 + 1 * r.val = 64 + r.val; omega
    · show 0 + 1 * l.val = l.val; omega
  unfold pieces
  rw [← e]
  exact View.canon_cons_emb (Val := Elt Ideal) (e := .f32) (Rect.unit (s := S128x256) ![64, 0] S64x256.size inb_S128x256_S64x256_64_0) b _ _

/-- The rows a half reads of the state's buffer. -/
theorem rowsLo_apply (h : FVec Ideal S128x256 .f32) (r : Fin 64) (l : Fin 256) : rowsLo h (ix2 r l) = h (ix2 (lo r) l) := by
  refine congrArg h ?_
  funext x; apply Fin.ext
  fin_cases x
  · show 0 + 1 * r.val = r.val; omega
  · show 0 + 1 * l.val = l.val; omega

theorem rowsHi_apply (h : FVec Ideal S128x256 .f32) (r : Fin 64) (l : Fin 256) : rowsHi h (ix2 r l) = h (ix2 (hi r) l) := by
  refine congrArg h ?_
  funext x; apply Fin.ext
  fin_cases x
  · show 64 + 1 * r.val = 64 + r.val; omega
  · show 0 + 1 * l.val = l.val; omega

/-- A row is one of the first 64 or one of the last. -/
theorem lo_or_hi (r : Fin 128) : (∃ q, r = lo q) ∨ ∃ q, r = hi q := by
  by_cases h : r.val < 64
  · exact .inl ⟨⟨r.val, h⟩, rfl⟩
  · refine .inr ⟨⟨r.val - 64, by omega⟩, Fin.ext ?_⟩
    show r.val = 64 + (r.val - 64)
    omega

/-- A point takes every sentence eight words on. -/
theorem blockNew_row (i : grid0.Coords) (x : FVec Ideal S128x8x256 .f32) (lens : FVec Ideal S128x1 .f32)
    (wi wh : FVec Ideal S256x768 .f32) (bi bh : FVec Ideal S1x768 .f32) (h : FVec Ideal S128x256 .f32)
    (r : Fin 128) (X : ℕ → Fin 256 → EReal) (L : ℤ) (hx : ∀ (k : Fin 8) l, x (ix3 r k l) = X (8 * (i 0).val + k.val) l)
    (hL : lens (ix2 r 0) = ((L : ℝ) : EReal))
    (hh : ∀ l, h (ix2 r l) = state wi wh (biasRow bi) (biasRow bh) X L (8 * (i 0).val) l) (l : Fin 256) :
    blockNew i x lens wi wh bi bh h (ix2 r l) = state wi wh (biasRow bi) (biasRow bh) X L (8 * (i 0).val + 8) l := by
  unfold blockNew
  rcases lo_or_hi r with ⟨q, rfl⟩ | ⟨q, rfl⟩
  · rw [canon_pieces_lo]
    exact blockLo_row i x lens wi wh bi bh _ q X L hx hL (fun l => (rowsLo_apply h q l).trans (hh l)) l
  · rw [canon_pieces_hi]
    exact blockHi_row i x lens wi wh bi bh _ q X L hx hL (fun l => (rowsHi_apply h q l).trans (hh l)) l

variable (m : (ℓ : Loc nD τ sig) → Buf (Elt Ideal) ℓ)

/-- The words of all sentences, as the grid's blocks cut them. -/
abbrev xs (c : Dev nD) : FVec Ideal S128x64x256 .f32 :=
  shapeCast S128x64x256 (m ((c : Thread nD τ).loc main_arg0)) shapeCasts_S8x16x64x256_S128x64x256

/-- The sums of the masks. -/
abbrev sums (c : Dev nD) : FVec Ideal S128 .f32 :=
  Host.reduceAdd (shapeCast S128x64 (m ((c : Thread nD τ).loc main_arg1)) shapeCasts_S8x16x64_S128x64)
    (constant S_ .f32 0x00000000#32) reducesTo_S128x64_S128_d1 h_S_

/-- Which block each window shows at a point. -/
theorem idx : ∀ t : Fin cfg0.N, win0_0.index t = ![0, t.val, 0] ∧ win0_1.index t = ![0, 0] ∧ win0_2.index t = ![0, 0]
    ∧ win0_3.index t = ![0, 0] ∧ win0_4.index t = ![0, 0] ∧ win0_5.index t = ![0, 0] := by decide +kernel

/-- A point's coordinate is its number. -/
theorem coord : ∀ t : Fin cfg0.N, (grid0.coords t 0).val = t.val := by decide +kernel

theorem blk_x (c : Dev nD) (t : Fin cfg0.N) (r : Fin 128) (k : Fin 8) (l : Fin 256) :
    (iblk m c 0 t : FVec Ideal S128x8x256 .f32) (ix3 r k l) = words (xs m c) r (8 * (grid0.coords t 0).val + k.val) l := by
  have hk : 8 * t.val + k.val < 64 := by have := t.isLt; have : t.val < 8 := lt_of_lt_of_eq t.isLt N_0; omega
  rw [coord, show 8 * t.val + k.val = (⟨8 * t.val + k.val, hk⟩ : Fin 64).val from rfl, words_of_lt]
  blk_ext [iblk, V, (idx t)]

theorem entry_len (c : Dev nD) : (V m c main_call0_v3 : FVec Ideal S128x1 .f32) = broadcastInDim S128x1 ![0] bcast_S128_S128x1_0 (sums m c) := by
  entry_read
  rfl

theorem entry_bi (c : Dev nD) : (V m c main_call0_v4 : FVec Ideal S1x768 .f32) = shapeCast S1x768 (m ((c : Thread nD τ).loc main_arg4)) shapeCasts_S768_S1x768 := by
  entry_read
  rfl

theorem entry_bh (c : Dev nD) : (V m c main_call0_v5 : FVec Ideal S1x768 .f32) = shapeCast S1x768 (m ((c : Thread nD τ).loc main_arg5)) shapeCasts_S768_S1x768 := by
  entry_read
  rfl

theorem blk_len (c : Dev nD) (t : Fin cfg0.N) (r : Fin 128) :
    (iblk m c 1 t : FVec Ideal S128x1 .f32) (ix2 r 0) = sums m c (ix1 r) := by
  have e : (iblk m c 1 t : FVec Ideal S128x1 .f32) (ix2 r 0) = (V m c main_call0_v3 : FVec Ideal S128x1 .f32) (ix2 r 0) := by
    blk_ext [iblk, (idx t)]
  rw [e, entry_len]
  generalize sums m c = s
  pointwise

theorem blk_wi (c : Dev nD) (t : Fin cfg0.N) :
    (iblk m c 2 t : FVec Ideal S256x768 .f32) = m ((c : Thread nD τ).loc main_arg2) := by
  funext y
  blk_ext [iblk, V, (idx t)]

theorem blk_wh (c : Dev nD) (t : Fin cfg0.N) :
    (iblk m c 3 t : FVec Ideal S256x768 .f32) = m ((c : Thread nD τ).loc main_arg3) := by
  funext y
  blk_ext [iblk, V, (idx t)]

theorem blk_bi (c : Dev nD) (t : Fin cfg0.N) :
    biasRow (iblk m c 4 t : FVec Ideal S1x768 .f32) = bias (m ((c : Thread nD τ).loc main_arg4)) := by
  funext j
  unfold biasRow bias
  have e : (iblk m c 4 t : FVec Ideal S1x768 .f32) (ix2 0 j) = (V m c main_call0_v4 : FVec Ideal S1x768 .f32) (ix2 0 j) := by
    blk_ext [iblk, (idx t)]
  rw [e, entry_bi]
  pointwise

theorem blk_bh (c : Dev nD) (t : Fin cfg0.N) :
    biasRow (iblk m c 5 t : FVec Ideal S1x768 .f32) = bias (m ((c : Thread nD τ).loc main_arg5)) := by
  funext j
  unfold biasRow bias
  have e : (iblk m c 5 t : FVec Ideal S1x768 .f32) (ix2 0 j) = (V m c main_call0_v5 : FVec Ideal S1x768 .f32) (ix2 0 j) := by
    blk_ext [iblk, (idx t)]
  rw [e, entry_bh]
  pointwise

/-- The zeros the first point starts from. -/
theorem zeros_apply (r : Fin 128) (l : Fin 256) : (zeros (F := Ideal)) (ix2 r l) = 0 := by
  unfold zeros
  pointwise

section Fold

variable (c : Dev nD) (L : Fin 128 → ℤ) (hL : ∀ r, sums m c (ix1 r) = ((L r : ℝ) : EReal))

/-- The state of sentence `r` before word `t`. -/
abbrev rowState (r : Fin 128) (t : ℕ) (l : Fin 256) : EReal :=
  state (m ((c : Thread nD τ).loc main_arg2)) (m ((c : Thread nD τ).loc main_arg3)) (bias (m ((c : Thread nD τ).loc main_arg4)))
    (bias (m ((c : Thread nD τ).loc main_arg5))) (words (xs m c) r) (L r) t l

include hL in
/-- Point `t` takes rows that hold the states before its first word to the states after its last. -/
theorem point_row (t : Fin cfg0.N) (h : FVec Ideal S128x256 .f32) (r : Fin 128)
    (hh : ∀ l, h (ix2 r l) = rowState m c L r (8 * t.val) l) (l : Fin 256) :
    blockNew (grid0.coords t) (iblk m c 0 t) (iblk m c 1 t) (iblk m c 2 t) (iblk m c 3 t) (iblk m c 4 t) (iblk m c 5 t) h (ix2 r l)
      = rowState m c L r (8 * (t.val + 1)) l := by
  have hx := blk_x m c t r
  have hl := (blk_len m c t r).trans (hL r)
  have h2 := blk_wi m c t
  have h3 := blk_wh m c t
  have h4 := blk_bi m c t
  have h5 := blk_bh m c t
  have hc := coord t
  unfold rowState at hh ⊢
  generalize words (xs m c) r = X at *
  generalize (iblk m c 0 t : FVec Ideal S128x8x256 .f32) = x0 at *
  generalize (iblk m c 1 t : FVec Ideal S128x1 .f32) = x1 at *
  generalize (iblk m c 2 t : FVec Ideal S256x768 .f32) = x2 at *
  generalize (iblk m c 3 t : FVec Ideal S256x768 .f32) = x3 at *
  generalize (iblk m c 4 t : FVec Ideal S1x768 .f32) = x4 at *
  generalize (iblk m c 5 t : FVec Ideal S1x768 .f32) = x5 at *
  generalize grid0.coords t = i at *
  subst h2 h3
  rw [← h4, ← h5, ← hc] at hh
  rw [← h4, ← h5, ← hc]
  exact blockNew_row i x0 x1 _ _ x4 x5 h r X (L r) hx hl hh l

include hL in
/-- After point `j`, before the last, the state's buffer holds every sentence's state before word `8 (j + 1)`. -/
theorem fold_row : ∀ (j : ℕ) (hj : j < 7) (h : 0 + j < cfg0.N) (r : Fin 128) (l : Fin 256),
    ((Pipeline.accAt (fun n h => stAt0 m c n h junk0) (stAt0 m c) 0 j h).2 : FVec Ideal S128x256 .f32) (ix2 r l)
      = rowState m c L r (8 * (j + 1)) l
  | 0, hj, h, r, l => by
    rw [Pipeline.accAt_zero]
    have e := stAt0_A m c ⟨0, h⟩ junk0 (by show 0 % 8 = 0; rfl) (by show ¬0 % 8 = 7; decide)
    refine (congrFun (congrArg Prod.snd e) (ix2 r l)).trans ?_
    dsimp only
    refine (congrFun (left_first c _ _ _ _ _ _ _ _ _ _ _ _ _ _ _ _ _ _ _ _ _ _ _ _ _) (ix2 r l)).trans ?_
    exact point_row m c L hL ⟨0, h⟩ zeros r (fun l => zeros_apply r l) l
  | j + 1, hj, h, r, l => by
    rw [Pipeline.accAt_succ]
    have hv : 0 + (j + 1) = j + 1 := Nat.zero_add _
    have e := stAt0_B m c ⟨0 + (j + 1), h⟩ (Pipeline.accAt (fun n h => stAt0 m c n h junk0) (stAt0 m c) 0 j (Nat.lt_of_succ_lt h))
      (by show ¬(0 + (j + 1)) % 8 = 0; omega) (by show ¬(0 + (j + 1)) % 8 = 7; omega)
    refine (congrFun (congrArg Prod.snd e) (ix2 r l)).trans ?_
    dsimp only
    refine (congrFun (left_middle c _ _ _ _ _ _ _ _ _ _ _ _ _ _ _ _ _ _ _ _ _ _ _ _ _ _) (ix2 r l)).trans ?_
    refine (point_row m c L hL ⟨0 + (j + 1), h⟩ _ r (fun l => ?_) l).trans ?_
    · refine (fold_row j (Nat.lt_of_succ_lt hj) (Nat.lt_of_succ_lt h) r l).trans ?_
      show _ = rowState m c L r (8 * (0 + (j + 1))) l
      rw [hv]
    · show rowState m c L r (8 * (0 + (j + 1) + 1)) l = _
      rw [hv]

include hL in
/-- The kernel's result: every sentence's state after its 64 words. -/
theorem result_row (r : Fin 128) (l : Fin 256) : (G6 m c : FVec Ideal S128x256 .f32) (ix2 r l) = rowState m c L r 64 l := by
  have h7 : 0 + (6 + 1) < cfg0.N := lt_of_lt_of_eq (by decide) N_0.symm
  have g : G6 m c = (Pipeline.accAt (fun n h => stAt0 m c n h junk0) (stAt0 m c) 0 (6 + 1) h7).1 := G6_last m c
  rw [g, Pipeline.accAt_succ]
  have e := stAt0_C m c ⟨0 + (6 + 1), h7⟩ (Pipeline.accAt (fun n h => stAt0 m c n h junk0) (stAt0 m c) 0 6 (Nat.lt_of_succ_lt h7))
    (by show ¬7 % 8 = 0; decide) (by show 7 % 8 = 7; rfl)
  refine (congrFun (congrArg Prod.fst e) (ix2 r l)).trans ?_
  dsimp only
  refine (congrFun (left_last c _ _ _ _ _ _ _ _ _ _ _ _ _ _ _ _ _ _ _ _ _ _ _ _ _ _) (ix2 r l)).trans ?_
  exact point_row m c L hL ⟨0 + (6 + 1), h7⟩ _ r (fun l => fold_row m c L hL 6 (by decide) (Nat.lt_of_succ_lt h7) r l) l

end Fold

end Cert.Gru.K

end
-- ==== Proof.RefStep.lean ====
/- One trip of the reference's loop at one row: the step from a sentence's state before a word to the one after it. -/
module

public import proofs.«01_k».proof.Proof.Rows
public import proofs.«01_k».proof.Proof.Inputs
public import proofs.«01_k».proof.Proof.Gen.ReferenceIdeal.StepRun
public import Idealize.ShloMosaic.Lib.WordArith

@[expose] public section

set_option maxRecDepth 16384

noncomputable section

namespace Cert.Gru.R

open Idealize.ShloMosaic Cert.ReferenceIdeal Cert.ReferenceIdeal.Gen Cert.ReferenceIdeal.Step
open Idealize.ShloMosaic.WordArith (toInt_ofNat_small)

/-- One slab of words, cut at a number in range. -/
theorem slab_apply (x : S64x128x256.Idx → EReal) (st : Fin 3 → ℤ) (j : ℕ) (hj : j < 64) (h0 : st 0 = (j : ℤ)) (h1 : st 1 = ((0 : ℕ) : ℤ))
    (h2 : st 2 = ((0 : ℕ) : ℤ)) (r : Fin 128) (l : Fin 256) :
    shapeCast S128x256 (Host.dynamicSlice S1x128x256 x st sliceFits_S64x128x256_S1x128x256) shapeCasts_S1x128x256_S128x256 (ix2 r l)
      = x (ix3 ⟨j, hj⟩ r l) := by
  have c0 (h) : Host.clampedStart S64x128x256 S1x128x256 h st 0 = j :=
    Host.clampedStart_of_le h st 0 j h0 (by show j + 1 ≤ 64; omega)
  have c1 (h) : Host.clampedStart S64x128x256 S1x128x256 h st 1 = 0 :=
    Host.clampedStart_of_le h st 1 0 h1 (by show 0 + 128 ≤ 128; omega)
  have c2 (h) : Host.clampedStart S64x128x256 S1x128x256 h st 2 = 0 :=
    Host.clampedStart_of_le h st 2 0 h2 (by show 0 + 256 ≤ 256; omega)
  pointwise [c0, c1, c2]

/-- The word a trip takes, of the rows it is given. -/
theorem word_apply (j : ℕ) (hj : j < 64) (s : State Ideal) (r : Fin 128) (l : Fin 256) :
    (b3 j s : FVec Ideal S128x256 .f32) (ix2 r l) = (s.main_v24_0 : FVec Ideal S64x128x256 .f32) (ix3 ⟨j, hj⟩ r l) := by
  unfold b3 b2 b0 b1
  exact slab_apply _ _ j hj (toInt_ofNat_small j (by omega)) rfl rfl r l

/-- A row of the input's pre-activations. -/
theorem inputPre_apply (j : ℕ) (s : State Ideal) (r : Fin 128) (q : Fin 768) :
    (b9 j s : FVec Ideal S128x768 .f32) (ix2 r q)
      = affine s.main_v24_2 (bias s.main_v24_3) (fun k => (b3 j s : FVec Ideal S128x256 .f32) (ix2 r k)) q := by
  unfold b9 b8 b7 b6 affine bias
  generalize (b3 j s : FVec Ideal S128x256 .f32) = x
  pointwise [dot_S128x256_S256x768_S128x768_1_0_0_1_n_n]

/-- A row of the state's pre-activations. -/
theorem statePre_apply (j : ℕ) (s : State Ideal) (r : Fin 128) (q : Fin 768) :
    (b13 j s : FVec Ideal S128x768 .f32) (ix2 r q)
      = affine s.main_v24_4 (bias s.main_v24_5) (fun k => (s.main_v24_8 : FVec Ideal S128x256 .f32) (ix2 r k)) q := by
  unfold b13 b12 b11 b10 affine bias
  pointwise [dot_S128x256_S256x768_S128x768_1_0_0_1_n_n]

/-- The new state of a row that takes the word. -/
theorem mixed_apply (j : ℕ) (s : State Ideal) (r : Fin 128) (l : Fin 256) :
    (b46 j s : FVec Ideal S128x256 .f32) (ix2 r l)
      = rowCell (fun q => (b9 j s : FVec Ideal S128x768 .f32) (ix2 r q)) (fun q => (b13 j s : FVec Ideal S128x768 .f32) (ix2 r q))
          (fun l => (s.main_v24_8 : FVec Ideal S128x256 .f32) (ix2 r l)) l := by
  unfold b46 b45 b44 b43 b42 b41 b40 b39 b38 b37 b36 b35 b34 b33 b32 b31 b30 b29 b28 b27 b26 b25 b24 b23 b22 b21 b20 b19 b18 b17 b16 b15 b14
  unfold rowCell cell Ideal.logistic
  generalize (b9 j s : FVec Ideal S128x768 .f32) = gi
  generalize (b13 j s : FVec Ideal S128x768 .f32) = gh
  have e0 (g : FVec Ideal S128x768 .f32) : extractStridedSlice S128x256 ![0, 0] g slices_S128x768_S128x256_0_0 (ix2 r l) = g (ix2 r (colR l)) := by
    pointwise [colR]
  have e1 (g : FVec Ideal S128x768 .f32) : extractStridedSlice S128x256 ![0, 256] g slices_S128x768_S128x256_0_256 (ix2 r l) = g (ix2 r (colZ l)) := by
    pointwise [colZ]
  have e2 (g : FVec Ideal S128x768 .f32) : extractStridedSlice S128x256 ![0, 512] g slices_S128x768_S128x256_0_512 (ix2 r l) = g (ix2 r (colN l)) := by
    pointwise [colN]
  pointwise [e0, e1, e2]

/-- The number of the word a trip takes. -/
theorem number_apply (j : ℕ) (hj : j < 64) (s : State Ideal) (r : Fin 128) :
    (b47 j s : IVec S128 32) (ix1 r) = BitVec.ofNat 32 j := by
  unfold b47 b5 b4 K_main_v23
  have h0 := toInt_ofNat_small j (by omega)
  pointwise
  rw [Host.clampedStart_of_le _ _ _ j h0 (by show j + 1 ≤ 64; omega)]

/-- One trip at a row. -/
theorem step_apply (j : ℕ) (s : State Ideal) (r : Fin 128) (l : Fin 256) :
    ((step j s).main_v24_8 : FVec Ideal S128x256 .f32) (ix2 r l)
      = if ((b47 j s : IVec S128 32) (ix1 r)).toInt < ((s.main_v24_6 : IVec S128 32) (ix1 r)).toInt then
          (b46 j s : FVec Ideal S128x256 .f32) (ix2 r l) else (s.main_v24_8 : FVec Ideal S128x256 .f32) (ix2 r l) := by
  rw [step_main_v24_8]
  unfold b51 b50 b49 b48
  generalize (b46 j s : FVec Ideal S128x256 .f32) = x
  generalize (b47 j s : IVec S128 32) = y
  have hs (p q : BitVec 32) (u v : EReal) :
      Scalar.select (IntOp.cmpi CmpIPredicate.slt p q) u v = if p.toInt < q.toInt then u else v := by
    unfold Scalar.select
    exact if_congr IntOp.cmpi_slt rfl rfl
  pointwise [hs]

end Cert.Gru.R

end
-- ==== Proof.Order.lean ====
/- The reference's sort by length, as a permutation of the rows, and the rows taken in its order. -/
module

public import Idealize.ShloMosaic.Lib.Pointwise
public import Idealize.ShloMosaic.Lib.SortFacts
public import proofs.«01_k».proof.Proof.Gen.ReferenceIdeal
public import Idealize.ShloMosaic.Lib.WordArith

@[expose] public section

set_option maxRecDepth 16384

noncomputable section

namespace Cert.Gru.R

open Idealize.ShloMosaic Cert.ReferenceIdeal Cert.ReferenceIdeal.Gen
open Idealize.ShloMosaic.WordArith (toInt_ofNat_small)

/-- The rows' numbers in the order of their keys. -/
def argsort (k : IVec S128 32) : IVec S128 32 :=
  (Host.sort2 S128 0 comparator_i32_i32_d0 k (iotaInDim S128 32 0)).2

/-- The permutation of the rows that puts their keys in order: which row comes to each place. -/
def place (k : IVec S128 32) : Equiv.Perm (Fin 128) :=
  Equiv.ofBijective (sortedFrom fun a b : Fin 128 => IntOp.cmpi .slt (k (ix1 a)) (k (ix1 b)) == 1#1)
    (show Function.Bijective _ from ⟨sortedFrom_injective _, sortedFrom_surjective _⟩)

/-- The row that comes to a place. -/
theorem place_apply (k : IVec S128 32) (r : Fin 128) :
    place k r = sortedFrom (fun a b : Fin 128 => IntOp.cmpi .slt (k (ix1 a)) (k (ix1 b)) == 1#1) r :=
  Equiv.ofBijective_apply _ _ _

/-- At each place stands the number of the row that comes there. -/
theorem argsort_apply (k : IVec S128 32) (r : Fin 128) : argsort k (ix1 r) = BitVec.ofNat 32 (place k r).val := by
  have hd : 0 < S128.rank := Nat.zero_lt_one
  have e (j : S128.Idx) (c : Fin 128) : j.along (⟨0, hd⟩ : Fin S128.rank) c = ix1 c := by
    funext a
    match a with
    | ⟨0, _⟩ => exact Function.update_self ..
  have hb : (fun a b : Fin 128 => comparator_i32_i32_d0
        (k ((ix1 r : S128.Idx).along ⟨0, hd⟩ a), iotaInDim S128 32 0 ((ix1 r : S128.Idx).along ⟨0, hd⟩ a))
        (k ((ix1 r : S128.Idx).along ⟨0, hd⟩ b), iotaInDim S128 32 0 ((ix1 r : S128.Idx).along ⟨0, hd⟩ b)) == 1#1)
      = fun a b => IntOp.cmpi .slt (k (ix1 a)) (k (ix1 b)) == 1#1 := by
    funext a b
    rw [e, e]
    rfl
  have hq := congrArg (fun f : Fin 128 → Fin 128 → Bool => sortedFrom f r) hb
  unfold argsort Host.sort2
  rw [dif_pos hd]
  refine (congrArg (fun c : Fin 128 => iotaInDim S128 32 0 ((ix1 r : S128.Idx).along ⟨0, hd⟩ c)) hq).trans ?_
  dsimp only
  rw [e, place_apply]
  rfl

/-- A sort by the places a permutation gives reads the permutation back. -/
theorem sortedFrom_perm {n : ℕ} (p : Equiv.Perm (Fin n)) (r : Fin n) :
    sortedFrom (fun a b => decide (p a < p b)) r = p.symm r := by
  have h := sortPositions_of_perm p.symm
  rw [Equiv.symm_symm] at h
  unfold sortedFrom
  rw [List.get_of_eq h, List.get_eq_getElem, List.getElem_ofFn]
  exact congrArg p.symm (Fin.ext rfl)

/-- Sorting the rows' numbers in some order puts each number in its own place. -/
theorem place_of_perm (k : IVec S128 32) (p : Equiv.Perm (Fin 128)) (h : ∀ r, k (ix1 r) = BitVec.ofNat 32 (p r).val) :
    place k = p.symm := by
  have hb : (fun a b : Fin 128 => IntOp.cmpi .slt (k (ix1 a)) (k (ix1 b)) == 1#1) = fun a b => decide (p a < p b) := by
    funext a b
    rw [beq_eq_decide]
    refine decide_eq_decide.mpr (IntOp.cmpi_slt.trans ?_)
    rw [h, h, toInt_ofNat_small _ (by omega), toInt_ofNat_small _ (by omega)]
    exact Int.ofNat_lt
  refine Equiv.ext fun r => ?_
  rw [place_apply, hb, sortedFrom_perm]

/-- The numbers of the rows to take, as a column, a number below zero counted from the end. -/
def column (v : IVec S128 32) : IVec S128x1 32 :=
  broadcastInDim S128x1 ![0] bcast_S128_S128x1_0
    (select (cmpi .slt v (broadcastInDim S128 ![] bcast_S_S128 (constantI S_ 32 0#32)))
      (addi v (broadcastInDim S128 ![] bcast_S_S128 (constantI S_ 32 128#32))) v)

/-- A row's number is taken as it stands. -/
theorem column_apply (v : IVec S128 32) (r b : Fin 128) (h : v (ix1 r) = BitVec.ofNat 32 b.val) :
    column v (ix2 r 0) = BitVec.ofNat 32 b.val := by
  have hn : ¬ IntOp.cmpi .slt (BitVec.ofNat 32 b.val) 0#32 = 1#1 := by
    rw [IntOp.cmpi_slt, toInt_ofNat_small _ (by omega)]
    show ¬ ((b.val : ℤ) < 0)
    omega
  unfold column
  pointwise [h]
  unfold Scalar.select
  exact if_neg hn

/-- Where a clamped row number stands, it is the row's own. -/
theorem clamp_row (c : IVec S128x1 32) (r b : Fin 128) (h : c (ix2 r 0) = BitVec.ofNat 32 b.val) :
    min (c (ix2 r 0)).toInt.toNat 127 = b.val := by
  rw [h, toInt_ofNat_small _ (by omega)]
  omega

/-- Rows of words taken by their numbers. -/
theorem take3_apply {α : Type} (x : S128x64x256.Idx → α) (c : IVec S128x1 32) (r b : Fin 128) (t : Fin 64) (l : Fin 256)
    (h : c (ix2 r 0) = BitVec.ofNat 32 b.val) :
    Host.gather gather_S128x64x256_S128x1_S128x64x256_12_0_n_n_0_1_164256 x c (ix3 r t l) = x (ix3 b t l) := by
  have hc := clamp_row c r b h
  have hs (k) : gather_S128x64x256_S128x1_S128x64x256_12_0_n_n_0_1_164256.siIdx (ix3 r t l) k = ix2 r 0 := by
    funext a
    match a with
    | ⟨0, _⟩ => rfl
    | ⟨1, _⟩ => exact Subsingleton.elim (α := Fin 1) _ _
  unfold Host.gather
  refine congrArg x (funext fun a => Fin.ext ?_)
  match a with
  | ⟨0, _⟩ =>
    refine Eq.trans ?_ hc
    rw [← hs ⟨0, by decide⟩]
    rfl
  | ⟨1, _⟩ => exact (Nat.zero_add _ : 0 + t.val = t.val)
  | ⟨2, _⟩ => exact (Nat.zero_add _ : 0 + l.val = l.val)

/-- Rows of states taken by their numbers. -/
theorem take2_apply {α : Type} (x : S128x256.Idx → α) (c : IVec S128x1 32) (r b : Fin 128) (l : Fin 256)
    (h : c (ix2 r 0) = BitVec.ofNat 32 b.val) :
    Host.gather gather_S128x256_S128x1_S128x256_1_0_n_n_0_1_1256 x c (ix2 r l) = x (ix2 b l) := by
  have hc := clamp_row c r b h
  have hs (k) : gather_S128x256_S128x1_S128x256_1_0_n_n_0_1_1256.siIdx (ix2 r l) k = ix2 r 0 := by
    funext a
    match a with
    | ⟨0, _⟩ => rfl
    | ⟨1, _⟩ => exact Subsingleton.elim (α := Fin 1) _ _
  unfold Host.gather
  refine congrArg x (funext fun a => Fin.ext ?_)
  match a with
  | ⟨0, _⟩ =>
    refine Eq.trans ?_ hc
    rw [← hs ⟨0, by decide⟩]
    rfl
  | ⟨1, _⟩ => exact (Nat.zero_add _ : 0 + l.val = l.val)

/-- Lengths taken by their rows' numbers. -/
theorem take1_apply {α : Type} (x : S128.Idx → α) (c : IVec S128x1 32) (r b : Fin 128)
    (h : c (ix2 r 0) = BitVec.ofNat 32 b.val) :
    Host.gather gather_S128_S128x1_S128_n_0_n_n_0_1_1 x c (ix1 r) = x (ix1 b) := by
  have hc := clamp_row c r b h
  have hs (k) : gather_S128_S128x1_S128_n_0_n_n_0_1_1.siIdx (ix1 r) k = ix2 r 0 := by
    funext a
    match a with
    | ⟨0, _⟩ => rfl
    | ⟨1, _⟩ => exact Subsingleton.elim (α := Fin 1) _ _
  unfold Host.gather
  refine congrArg x (funext fun a => Fin.ext ?_)
  match a with
  | ⟨0, _⟩ =>
    refine Eq.trans ?_ hc
    rw [← hs ⟨0, by decide⟩]
    rfl

end Cert.Gru.R

end
-- ==== Proof.RefRows.lean ====
/- The reference at a row: the loop carries the sentences in the order of their lengths, and the last gather puts each back. -/
module

public import proofs.«01_k».proof.Proof.RefStep
public import proofs.«01_k».proof.Proof.Order

@[expose] public section

set_option maxRecDepth 16384

noncomputable section

namespace Cert.Gru.R

open Idealize.ShloMosaic Cert.ReferenceIdeal Cert.ReferenceIdeal.Gen Cert.ReferenceIdeal.Step
open Idealize.ShloMosaic.WordArith (toInt_ofNat_small)

variable (x : FVec Ideal S8x16x64x256 .f32) (mask : FVec Ideal S8x16x64 .f32) (wi wh : FVec Ideal S256x768 .f32) (bi bh : FVec Ideal S768 .f32)

/-- The loop's state before each trip. -/
def loop : ℕ → State Ideal
  | 0 => init wi bi wh bh x mask
  | n + 1 => step n (loop n)

/-- The order the sentences are taken in. -/
def order : Equiv.Perm (Fin 128) := place (A_main_v4 (F := Ideal) x mask)

/-- The column of row numbers the gathers before the loop read. -/
theorem rows_apply (r : Fin 128) :
    column (argsort (A_main_v4 (F := Ideal) x mask)) (ix2 r 0) = BitVec.ofNat 32 (order x mask r).val :=
  column_apply _ r _ (argsort_apply _ r)

/-- The words the loop is given, of the sentence at a place. -/
theorem slabs_apply (t : Fin 64) (r : Fin 128) (l : Fin 256) :
    (A_main_v22 (F := Ideal) x mask : FVec Ideal S64x128x256 .f32) (ix3 t r l)
      = (A_main_v0 (F := Ideal) x mask : FVec Ideal S128x64x256 .f32) (ix3 (order x mask r) t l) := by
  have h := take3_apply (A_main_v0 (F := Ideal) x mask : FVec Ideal S128x64x256 .f32) _ r _ t l (rows_apply x mask r)
  refine Eq.trans ?_ h
  show transpose S64x128x256 [1, 0, 2] (A_main_v13 (F := Ideal) x mask) transposes_S128x64x256_S64x128x256_1_0_2 (ix3 t r l)
    = (A_main_v13 (F := Ideal) x mask : FVec Ideal S128x64x256 .f32) (ix3 r t l)
  generalize (A_main_v13 (F := Ideal) x mask : FVec Ideal S128x64x256 .f32) = y
  pointwise

/-- The lengths the loop is given, of the sentence at a place. -/
theorem lengths_apply (r : Fin 128) :
    (A_main_v20 (F := Ideal) x mask : IVec S128 32) (ix1 r) = (A_main_v3 (F := Ideal) x mask : IVec S128 32) (ix1 (order x mask r)) :=
  take1_apply (A_main_v3 (F := Ideal) x mask : IVec S128 32) _ r _ (rows_apply x mask r)

/-- The loop starts from states of zeros. -/
theorem zeros_apply (r : Fin 128) (l : Fin 256) : (K_main_v21 (F := Ideal) : FVec Ideal S128x256 .f32) (ix2 r l) = 0 := by
  unfold K_main_v21 K_main_cst_3
  pointwise [Ideal.ofBits_zero]

/-- No trip changes what the loop is given. -/
theorem loop_given (n : ℕ) :
    (loop x mask wi wh bi bh n).main_v24_0 = A_main_v22 (F := Ideal) x mask ∧ (loop x mask wi wh bi bh n).main_v24_2 = wi
      ∧ (loop x mask wi wh bi bh n).main_v24_3 = bi ∧ (loop x mask wi wh bi bh n).main_v24_4 = wh
      ∧ (loop x mask wi wh bi bh n).main_v24_5 = bh ∧ (loop x mask wi wh bi bh n).main_v24_6 = A_main_v20 (F := Ideal) x mask := by
  induction n with
  | zero => exact ⟨rfl, rfl, rfl, rfl, rfl, rfl⟩
  | succ n ih => exact ih

/-- Before each trip a place holds the state of its sentence. -/
theorem loop_apply (n : ℕ) (hn : n ≤ 64) (r : Fin 128) (l : Fin 256) :
    ((loop x mask wi wh bi bh n).main_v24_8 : FVec Ideal S128x256 .f32) (ix2 r l)
      = state wi wh (bias bi) (bias bh) (words (A_main_v0 (F := Ideal) x mask) (order x mask r))
          ((A_main_v3 (F := Ideal) x mask : IVec S128 32) (ix1 (order x mask r))).toInt n l := by
  induction n generalizing l with
  | zero => exact zeros_apply r l
  | succ n ih =>
    have hlt : n < 64 := hn
    obtain ⟨g0, g2, g3, g4, g5, g6⟩ := loop_given x mask wi wh bi bh n
    have ih' := fun l => ih (by omega) l
    show ((step n (loop x mask wi wh bi bh n)).main_v24_8 : FVec Ideal S128x256 .f32) (ix2 r l) = _
    have hw : (fun k => (b3 n (loop x mask wi wh bi bh n) : FVec Ideal S128x256 .f32) (ix2 r k))
        = words (A_main_v0 (F := Ideal) x mask) (order x mask r) n := by
      funext k
      rw [word_apply n hlt, g0, slabs_apply]
      exact (words_of_lt _ _ ⟨n, hlt⟩ k).symm
    have hh : (fun k => ((loop x mask wi wh bi bh n).main_v24_8 : FVec Ideal S128x256 .f32) (ix2 r k))
        = state wi wh (bias bi) (bias bh) (words (A_main_v0 (F := Ideal) x mask) (order x mask r))
          ((A_main_v3 (F := Ideal) x mask : IVec S128 32) (ix1 (order x mask r))).toInt n := funext ih'
    rw [step_apply, number_apply n hlt, toInt_ofNat_small n (by omega), g6, lengths_apply, mixed_apply]
    simp only [inputPre_apply, statePre_apply]
    rw [hw, hh, g2, g3, g4, g5, ih']
    rfl

/-- The result at a row is the state of that row's sentence after its last word. -/
theorem result_apply (r : Fin 128) (l : Fin 256) :
    (R_main_v37 (loop x mask wi wh bi bh 64) mask : FVec Ideal S128x256 .f32) (ix2 r l)
      = state wi wh (bias bi) (bias bh) (words (A_main_v0 (F := Ideal) x mask) r)
          ((A_main_v3 (F := Ideal) x mask : IVec S128 32) (ix1 r)).toInt 64 l := by
  have hp := place_of_perm (argsort (A_main_v4 (F := Ideal) x mask)) (order x mask) (argsort_apply _)
  have hc := column_apply (argsort (argsort (A_main_v4 (F := Ideal) x mask))) r _ (argsort_apply _ r)
  rw [hp] at hc
  refine (take2_apply ((loop x mask wi wh bi bh 64).main_v24_8 : FVec Ideal S128x256 .f32) _ r _ l hc).trans ?_
  rw [loop_apply x mask wi wh bi bh 64 le_rfl, Equiv.apply_symm_apply]

end Cert.Gru.R

end
-- ==== Proof.Equation.lean ====
/- The kernel's result is the reference's, where each sentence's mask sums to a length. -/
module

public import proofs.«01_k».proof.Defs
public import proofs.«01_k».proof.Proof.KernelArray
public import proofs.«01_k».proof.Proof.RefRows
public import proofs.«01_k».proof.Proof.Gen.Pre_whole_lengths

@[expose] public section

set_option maxRecDepth 16384

noncomputable section

namespace Cert.Gru

open Idealize.ShloMosaic Idealize.ShloMosaic.TcCoe

/-- The precondition at a sentence: the sum of its mask is its length. -/
theorem sums_of_pre (m : (ℓ : Loc KernelIdeal.nD KernelIdeal.τ KernelIdeal.sig) → Buf (Elt Ideal) ℓ)
    (h : Cert.Pre_KernelIdeal_whole_lengths (hPre_whole_lengths := Cert.Pre_whole_lengths.Gen.facts) m) (c : Dev KernelIdeal.nD) (r : Fin 128) :
    K.sums m c (ix1 r) = ((len (K.sums m c) r : ℝ) : EReal) :=
  sum_eq_len _ r (congrFun (h c) (ix1 r))

/-- The two results, of arguments that agree. -/
theorem results_eq (m : (ℓ : Loc KernelIdeal.nD KernelIdeal.τ KernelIdeal.sig) → Buf (Elt Ideal) ℓ)
    (h : Cert.Pre_KernelIdeal_whole_lengths (hPre_whole_lengths := Cert.Pre_whole_lengths.Gen.facts) m) (c : Dev KernelIdeal.nD) :
    (ReferenceIdeal.Step.R_main_v37 (R.loop
        (m ((c : Thread KernelIdeal.nD KernelIdeal.τ).loc KernelIdeal.main_arg0))
        (m ((c : Thread KernelIdeal.nD KernelIdeal.τ).loc KernelIdeal.main_arg1))
        (m ((c : Thread KernelIdeal.nD KernelIdeal.τ).loc KernelIdeal.main_arg2))
        (m ((c : Thread KernelIdeal.nD KernelIdeal.τ).loc KernelIdeal.main_arg3))
        (m ((c : Thread KernelIdeal.nD KernelIdeal.τ).loc KernelIdeal.main_arg4))
        (m ((c : Thread KernelIdeal.nD KernelIdeal.τ).loc KernelIdeal.main_arg5)) 64)
        (m ((c : Thread KernelIdeal.nD KernelIdeal.τ).loc KernelIdeal.main_arg1)) : FVec Ideal KernelIdeal.S128x256 .f32)
      = KernelIdeal.Value.G6 m c := by
  funext i
  obtain ⟨r, l, rfl⟩ : ∃ (r : Fin 128) (l : Fin 256), i = ix2 r l := ⟨i 0, i 1, by
    funext a
    match a with
    | ⟨0, _⟩ => rfl
    | ⟨1, _⟩ => rfl⟩
  refine (R.result_apply _ _ _ _ _ _ r l).trans ?_
  exact (K.result_row m c (len (K.sums m c)) (sums_of_pre m h c) r l).symm

end Cert.Gru

end
-- ==== Proof.lean ====
/- The claims: the kernel and its ideal form run and leave their arguments alone, the ideal form is the kernel's own
   program, and the ideal form's result is the reference's. -/
module

public import proofs.«01_k».proof.Defs
public import proofs.«01_k».proof.Proof.Gen.Kernel.Frame
public import proofs.«01_k».proof.Proof.Gen.KernelIdeal.Value
public import proofs.«01_k».proof.Proof.Gen.Pre_whole_lengths
public import proofs.«01_k».proof.Proof.Gen.ReferenceIdeal.StepRun
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The state of the reference's loop before each trip. -/
def trips (m : (ℓ : Loc ReferenceIdeal.nD ReferenceIdeal.τ ReferenceIdeal.sig) → Buf (Elt Ideal) ℓ) (c : Dev ReferenceIdeal.nD) :
    ℕ → Cert.ReferenceIdeal.Step.State Ideal :=
  Cert.Gru.R.loop
    (m ((c.tc : Thread ReferenceIdeal.nD ReferenceIdeal.τ).loc ReferenceIdeal.main_arg0))
    (m ((c.tc : Thread ReferenceIdeal.nD ReferenceIdeal.τ).loc ReferenceIdeal.main_arg1))
    (m ((c.tc : Thread ReferenceIdeal.nD ReferenceIdeal.τ).loc ReferenceIdeal.main_arg2))
    (m ((c.tc : Thread ReferenceIdeal.nD ReferenceIdeal.τ).loc ReferenceIdeal.main_arg3))
    (m ((c.tc : Thread ReferenceIdeal.nD ReferenceIdeal.τ).loc ReferenceIdeal.main_arg4))
    (m ((c.tc : Thread ReferenceIdeal.nD ReferenceIdeal.τ).loc ReferenceIdeal.main_arg5))

/-- The reference runs, its arguments unchanged, and its result is what its loop of 64 trips leaves. -/
theorem reference_run (m : (ℓ : Loc ReferenceIdeal.nD ReferenceIdeal.τ ReferenceIdeal.sig) → Buf (Elt Ideal) ℓ)
    (ρ : Dev ReferenceIdeal.nD → PrngReg) :
    θ_run Cert.ReferenceIdeal.defs (onTc (τ := ReferenceIdeal.τ) (Cert.ReferenceIdeal.main (F := Ideal))) ⟨m, fun _ => 0, ρ⟩ fun r => ∀ c : Dev ReferenceIdeal.nD,
      r.2.mem ((c.tc : Thread ReferenceIdeal.nD ReferenceIdeal.τ).loc ReferenceIdeal.main_v37)
        = Cert.ReferenceIdeal.Step.R_main_v37 (trips m c 64) (m ((c.tc : Thread ReferenceIdeal.nD ReferenceIdeal.τ).loc ReferenceIdeal.main_arg1))
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5) :=
  Cert.ReferenceIdeal.StepRun.run_iter (F := Ideal) m ρ (trips m) (fun _ => rfl) (fun _ _ => rfl)

/-- The reference runs, its arguments unchanged, and leaves every counter at zero. -/
theorem quiescent_reference : Cert.quiescent_ReferenceIdeal := fun m ρ _ =>
  (θ_run Cert.ReferenceIdeal.defs _ _).mono (fun r h => ⟨fun c => (h c).2, sem_eq_zero_of_no_sems (by decide) r.2⟩)
    (reference_run m ρ)

/-- The same from memories that meet the precondition. -/
theorem quiescent_reference_pre : Cert.quiescent_ReferenceIdeal_pre_whole_lengths := fun m ρ _ =>
  (θ_run Cert.ReferenceIdeal.defs _ _).mono (fun r h => ⟨fun c => (h c).2, sem_eq_zero_of_no_sems (by decide) r.2⟩)
    (reference_run m ρ)

/-- The kernel's result and the reference's are equal where the masks sum to lengths. -/
theorem algebraic : Cert.algebraic_KernelIdeal_ReferenceIdeal_pre_whole_lengths := by
  intro m ρ m' ρ' hpre hagree
  refine ⟨_, Cert.KernelIdeal.Value.run (F := Ideal) m ρ, ?_⟩
  refine (θ_run Cert.ReferenceIdeal.defs _ _).mono (fun _ h c => ⟨?_, (h c).2⟩) (reference_run m' ρ')
  obtain ⟨e0, e1, e2, e3, e4, e5⟩ := hagree c
  rw [(h c).1, trips, e0, e1, e2, e3, e4, e5]
  exact Cert.Gru.results_eq m hpre c

/-- Every claim of the certificate. -/
theorem claim : Cert.Claim := ⟨Cert.Kernel.Gen.facts, Cert.KernelIdeal.Gen.facts, Cert.ReferenceIdeal.Gen.facts, Cert.Pre_whole_lengths.Gen.facts,
  fun m ρ _ => Cert.Kernel.Gen.frame m ρ, fun m ρ _ => Cert.KernelIdeal.Gen.frame m ρ, fun m ρ _ => Cert.KernelIdeal.Gen.frame m ρ,
  quiescent_reference, quiescent_reference_pre, (trivial : preserves_Kernel_KernelIdeal), algebraic⟩

end Cert.Proof

end
